-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1024x48x23 : Shape := ⟨3, ![1024, 48, 23]⟩
abbrev S1024x48x48x5 : Shape := ⟨4, ![1024, 48, 48, 5]⟩
abbrev S115x64 : Shape := ⟨2, ![115, 64]⟩
abbrev S23x64 : Shape := ⟨2, ![23, 64]⟩
abbrev S64 : Shape := ⟨1, ![64]⟩
abbrev S320x64 : Shape := ⟨2, ![320, 64]⟩
abbrev S64x64 : Shape := ⟨2, ![64, 64]⟩
abbrev S64x128 : Shape := ⟨2, ![64, 128]⟩
abbrev S128 : Shape := ⟨1, ![128]⟩
abbrev S128x64 : Shape := ⟨2, ![128, 64]⟩
abbrev S128x24 : Shape := ⟨2, ![128, 24]⟩
abbrev S24 : Shape := ⟨1, ![24]⟩
abbrev S5x128x128 : Shape := ⟨3, ![5, 128, 128]⟩
abbrev S_ : Shape := ⟨0, ![]⟩

class Facts : Prop where
  bcast_S_S1024x48x23 : S_.BroadcastsInDim S1024x48x23 (![] : Fin 0 → Fin S1024x48x23.rank)
  bcast_S_S1024x48x48x5 : S_.BroadcastsInDim S1024x48x48x5 (![] : Fin 0 → Fin S1024x48x48x5.rank)
  bcast_S_S115x64 : S_.BroadcastsInDim S115x64 (![] : Fin 0 → Fin S115x64.rank)
  bcast_S_S23x64 : S_.BroadcastsInDim S23x64 (![] : Fin 0 → Fin S23x64.rank)
  bcast_S_S64 : S_.BroadcastsInDim S64 (![] : Fin 0 → Fin S64.rank)
  bcast_S_S320x64 : S_.BroadcastsInDim S320x64 (![] : Fin 0 → Fin S320x64.rank)
  bcast_S_S64x64 : S_.BroadcastsInDim S64x64 (![] : Fin 0 → Fin S64x64.rank)
  bcast_S_S64x128 : S_.BroadcastsInDim S64x128 (![] : Fin 0 → Fin S64x128.rank)
  bcast_S_S128 : S_.BroadcastsInDim S128 (![] : Fin 0 → Fin S128.rank)
  bcast_S_S128x64 : S_.BroadcastsInDim S128x64 (![] : Fin 0 → Fin S128x64.rank)
  bcast_S_S5x128x128 : S_.BroadcastsInDim S5x128x128 (![] : Fin 0 → Fin S5x128x128.rank)

variable [Facts]

def fn_part2 {F : FTy → Type} [FloatOps F] (main_arg12 : FVec F S128 .f32) (main_arg13 : FVec F S128x64 .f32) (main_arg14 : FVec F S64 .f32) (main_arg19 : FVec F S64x128 .f32) (main_arg20 : FVec F S128 .f32) (main_arg21 : FVec F S5x128x128 .f32) (main_v2 : IVec S1024x48x23 1) (main_v5 : IVec S1024x48x48x5 1) (main_v8 : IVec S115x64 1) (main_v11 : IVec S23x64 1) (main_v14 : IVec S64 1) (main_v17 : IVec S320x64 1) (main_v20 : IVec S64x64 1) (main_v23 : IVec S64 1) (main_v26 : IVec S320x64 1) (main_v29 : IVec S64x64 1) (main_v32 : IVec S64 1) (main_v35 : IVec S64x128 1) : IVec S1024x48x23 1 × IVec S1024x48x48x5 1 × IVec S115x64 1 × IVec S23x64 1 × IVec S64 1 × IVec S320x64 1 × IVec S64x64 1 × IVec S64 1 × IVec S320x64 1 × IVec S64x64 1 × IVec S64 1 × IVec S64x128 1 × IVec S128 1 × IVec S128x64 1 × IVec S64 1 × IVec S64x128 1 × IVec S128 1 × IVec S5x128x128 1 :=
  let main_v36 : FVec F S128 .f32 := Host.absf main_arg12
  let main_cst_11 : FVec F S_ .f32 := constant S_ .f32 0x7F800000#32
  let main_v37 : FVec F S128 .f32 := broadcastInDim S128 ![] bcast_S_S128 main_cst_11
  let main_v38 : IVec S128 1 := cmpf .olt main_v36 main_v37
  let main_v39 : FVec F S128x64 .f32 := Host.absf main_arg13
  let main_cst_12 : FVec F S_ .f32 := constant S_ .f32 0x7F800000#32
  let main_v40 : FVec F S128x64 .f32 := broadcastInDim S128x64 ![] bcast_S_S128x64 main_cst_12
  let main_v41 : IVec S128x64 1 := cmpf .olt main_v39 main_v40
  let main_v42 : FVec F S64 .f32 := Host.absf main_arg14
  let main_cst_13 : FVec F S_ .f32 := constant S_ .f32 0x7F800000#32
  let main_v43 : FVec F S64 .f32 := broadcastInDim S64 ![] bcast_S_S64 main_cst_13
  let main_v44 : IVec S64 1 := cmpf .olt main_v42 main_v43
  let main_v45 : FVec F S64x128 .f32 := Host.absf main_arg19
  let main_cst_14 : FVec F S_ .f32 := constant S_ .f32 0x7F800000#32
  let main_v46 : FVec F S64x128 .f32 := broadcastInDim S64x128 ![] bcast_S_S64x128 main_cst_14
  let main_v47 : IVec S64x128 1 := cmpf .olt main_v45 main_v46
  let main_v48 : FVec F S128 .f32 := Host.absf main_arg20
  let main_cst_15 : FVec F S_ .f32 := constant S_ .f32 0x7F800000#32
  let main_v49 : FVec F S128 .f32 := broadcastInDim S128 ![] bcast_S_S128 main_cst_15
  let main_v50 : IVec S128 1 := cmpf .olt main_v48 main_v49
  let main_v51 : FVec F S5x128x128 .f32 := Host.absf main_arg21
  let main_cst_16 : FVec F S_ .f32 := constant S_ .f32 0x7F800000#32
  let main_v52 : FVec F S5x128x128 .f32 := broadcastInDim S5x128x128 ![] bcast_S_S5x128x128 main_cst_16
  let main_v53 : IVec S5x128x128 1 := cmpf .olt main_v51 main_v52
  (main_v2, main_v5, main_v8, main_v11, main_v14, main_v17, main_v20, main_v23, main_v26, main_v29, main_v32, main_v35, main_v38, main_v41, main_v44, main_v47, main_v50, main_v53)

def fn_part1 {F : FTy → Type} [FloatOps F] (main_arg6 : FVec F S64x64 .f32) (main_arg7 : FVec F S64 .f32) (main_arg8 : FVec F S320x64 .f32) (main_arg9 : FVec F S64x64 .f32) (main_arg10 : FVec F S64 .f32) (main_arg11 : FVec F S64x128 .f32) (main_arg12 : FVec F S128 .f32) (main_arg13 : FVec F S128x64 .f32) (main_arg14 : FVec F S64 .f32) (main_arg19 : FVec F S64x128 .f32) (main_arg20 : FVec F S128 .f32) (main_arg21 : FVec F S5x128x128 .f32) (main_v2 : IVec S1024x48x23 1) (main_v5 : IVec S1024x48x48x5 1) (main_v8 : IVec S115x64 1) (main_v11 : IVec S23x64 1) (main_v14 : IVec S64 1) (main_v17 : IVec S320x64 1) : IVec S1024x48x23 1 × IVec S1024x48x48x5 1 × IVec S115x64 1 × IVec S23x64 1 × IVec S64 1 × IVec S320x64 1 × IVec S64x64 1 × IVec S64 1 × IVec S320x64 1 × IVec S64x64 1 × IVec S64 1 × IVec S64x128 1 × IVec S128 1 × IVec S128x64 1 × IVec S64 1 × IVec S64x128 1 × IVec S128 1 × IVec S5x128x128 1 :=
  let main_v18 : FVec F S64x64 .f32 := Host.absf main_arg6
  let main_cst_5 : FVec F S_ .f32 := constant S_ .f32 0x7F800000#32
  let main_v19 : FVec F S64x64 .f32 := broadcastInDim S64x64 ![] bcast_S_S64x64 main_cst_5
  let main_v20 : IVec S64x64 1 := cmpf .olt main_v18 main_v19
  let main_v21 : FVec F S64 .f32 := Host.absf main_arg7
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_v24 : FVec F S320x64 .f32 := Host.absf main_arg8
  let main_cst_7 : FVec F S_ .f32 := constant S_ .f32 0x7F800000#32
  let main_v25 : FVec F S320x64 .f32 := broadcastInDim S320x64 ![] bcast_S_S320x64 main_cst_7
  let main_v26 : IVec S320x64 1 := cmpf .olt main_v24 main_v25
  let main_v27 : FVec F S64x64 .f32 := Host.absf main_arg9
  let main_cst_8 : FVec F S_ .f32 := constant S_ .f32 0x7F800000#32
  let main_v28 : FVec F S64x64 .f32 := broadcastInDim S64x64 ![] bcast_S_S64x64 main_cst_8
  let main_v29 : IVec S64x64 1 := cmpf .olt main_v27 main_v28
  let main_v30 : FVec F S64 .f32 := Host.absf main_arg10
  let main_cst_9 : FVec F S_ .f32 := constant S_ .f32 0x7F800000#32
  let main_v31 : FVec F S64 .f32 := broadcastInDim S64 ![] bcast_S_S64 main_cst_9
  let main_v32 : IVec S64 1 := cmpf .olt main_v30 main_v31
  let main_v33 : FVec F S64x128 .f32 := Host.absf main_arg11
  let main_cst_10 : FVec F S_ .f32 := constant S_ .f32 0x7F800000#32
  let main_v34 : FVec F S64x128 .f32 := broadcastInDim S64x128 ![] bcast_S_S64x128 main_cst_10
  let main_v35 : IVec S64x128 1 := cmpf .olt main_v33 main_v34
  fn_part2 (F := F) main_arg12 main_arg13 main_arg14 main_arg19 main_arg20 main_arg21 main_v2 main_v5 main_v8 main_v11 main_v14 main_v17 main_v20 main_v23 main_v26 main_v29 main_v32 main_v35

def fn {F : FTy → Type} [FloatOps F] (main_arg0 : FVec F S1024x48x23 .f32) (main_arg1 : FVec F S1024x48x48x5 .f32) (main_arg2 : FVec F S115x64 .f32) (main_arg3 : FVec F S23x64 .f32) (main_arg4 : FVec F S64 .f32) (main_arg5 : FVec F S320x64 .f32) (main_arg6 : FVec F S64x64 .f32) (main_arg7 : FVec F S64 .f32) (main_arg8 : FVec F S320x64 .f32) (main_arg9 : FVec F S64x64 .f32) (main_arg10 : FVec F S64 .f32) (main_arg11 : FVec F S64x128 .f32) (main_arg12 : FVec F S128 .f32) (main_arg13 : FVec F S128x64 .f32) (main_arg14 : FVec F S64 .f32) (main_arg15 : FVec F S64x128 .f32) (main_arg16 : FVec F S128 .f32) (main_arg17 : FVec F S128x24 .f32) (main_arg18 : FVec F S24 .f32) (main_arg19 : FVec F S64x128 .f32) (main_arg20 : FVec F S128 .f32) (main_arg21 : FVec F S5x128x128 .f32) : IVec S1024x48x23 1 × IVec S1024x48x48x5 1 × IVec S115x64 1 × IVec S23x64 1 × IVec S64 1 × IVec S320x64 1 × IVec S64x64 1 × IVec S64 1 × IVec S320x64 1 × IVec S64x64 1 × IVec S64 1 × IVec S64x128 1 × IVec S128 1 × IVec S128x64 1 × IVec S64 1 × IVec S64x128 1 × IVec S128 1 × IVec S5x128x128 1 :=
  let main_v0 : FVec F S1024x48x23 .f32 := Host.absf main_arg0
  let main_cst : FVec F S_ .f32 := constant S_ .f32 0x7F800000#32
  let main_v1 : FVec F S1024x48x23 .f32 := broadcastInDim S1024x48x23 ![] bcast_S_S1024x48x23 main_cst
  let main_v2 : IVec S1024x48x23 1 := cmpf .olt main_v0 main_v1
  let main_v3 : FVec F S1024x48x48x5 .f32 := Host.absf main_arg1
  let main_cst_0 : FVec F S_ .f32 := constant S_ .f32 0x7F800000#32
  let main_v4 : FVec F S1024x48x48x5 .f32 := broadcastInDim S1024x48x48x5 ![] bcast_S_S1024x48x48x5 main_cst_0
  let main_v5 : IVec S1024x48x48x5 1 := cmpf .olt main_v3 main_v4
  let main_v6 : FVec F S115x64 .f32 := Host.absf main_arg2
  let main_cst_1 : FVec F S_ .f32 := constant S_ .f32 0x7F800000#32
  let main_v7 : FVec F S115x64 .f32 := broadcastInDim S115x64 ![] bcast_S_S115x64 main_cst_1
  let main_v8 : IVec S115x64 1 := cmpf .olt main_v6 main_v7
  let main_v9 : FVec F S23x64 .f32 := Host.absf main_arg3
  let main_cst_2 : FVec F S_ .f32 := constant S_ .f32 0x7F800000#32
  let main_v10 : FVec F S23x64 .f32 := broadcastInDim S23x64 ![] bcast_S_S23x64 main_cst_2
  let main_v11 : IVec S23x64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S320x64 .f32 := Host.absf main_arg5
  let main_cst_4 : FVec F S_ .f32 := constant S_ .f32 0x7F800000#32
  let main_v16 : FVec F S320x64 .f32 := broadcastInDim S320x64 ![] bcast_S_S320x64 main_cst_4
  let main_v17 : IVec S320x64 1 := cmpf .olt main_v15 main_v16
  fn_part1 (F := F) main_arg6 main_arg7 main_arg8 main_arg9 main_arg10 main_arg11 main_arg12 main_arg13 main_arg14 main_arg19 main_arg20 main_arg21 main_v2 main_v5 main_v8 main_v11 main_v14 main_v17
-- ==== Kernel.lean ====
abbrev S1024x48x23 : Shape := ⟨3, ![1024, 48, 23]⟩
abbrev S1024x48x48x5 : Shape := ⟨4, ![1024, 48, 48, 5]⟩
abbrev S115x64 : Shape := ⟨2, ![115, 64]⟩
abbrev S23x64 : Shape := ⟨2, ![23, 64]⟩
abbrev S64 : Shape := ⟨1, ![64]⟩
abbrev S320x64 : Shape := ⟨2, ![320, 64]⟩
abbrev S64x64 : Shape := ⟨2, ![64, 64]⟩
abbrev S64x128 : Shape := ⟨2, ![64, 128]⟩
abbrev S128 : Shape := ⟨1, ![128]⟩
abbrev S128x64 : Shape := ⟨2, ![128, 64]⟩
abbrev S128x24 : Shape := ⟨2, ![128, 24]⟩
abbrev S24 : Shape := ⟨1, ![24]⟩
abbrev S5x128x128 : Shape := ⟨3, ![5, 128, 128]⟩
abbrev S48x5x48x1024 : Shape := ⟨4, ![48, 5, 48, 1024]⟩
abbrev S48x240x1024 : Shape := ⟨3, ![48, 240, 1024]⟩
abbrev S23x48x1024 : Shape := ⟨3, ![23, 48, 1024]⟩
abbrev S5x23x64 : Shape := ⟨3, ![5, 23, 64]⟩
abbrev S5x64x64 : Shape := ⟨3, ![5, 64, 64]⟩
abbrev S_ : Shape := ⟨0, ![]⟩
abbrev S1x64 : Shape := ⟨2, ![1, 64]⟩
abbrev S1x128 : Shape := ⟨2, ![1, 128]⟩
abbrev S128x23 : Shape := ⟨2, ![128, 23]⟩
abbrev S23 : Shape := ⟨1, ![23]⟩
abbrev S1x23 : Shape := ⟨2, ![1, 23]⟩
abbrev S128x1 : Shape := ⟨2, ![128, 1]⟩
abbrev S1 : Shape := ⟨1, ![1]⟩
abbrev S1024x48x1 : Shape := ⟨3, ![1024, 48, 1]⟩
abbrev S23x48x128 : Shape := ⟨3, ![23, 48, 128]⟩
abbrev S48x240x128 : Shape := ⟨3, ![48, 240, 128]⟩
abbrev S128x48x1 : Shape := ⟨3, ![128, 48, 1]⟩
abbrev S48x240x64 : Shape := ⟨3, ![48, 240, 64]⟩
abbrev S64x48x240 : Shape := ⟨3, ![64, 48, 240]⟩
abbrev S23x48x64 : Shape := ⟨3, ![23, 48, 64]⟩
abbrev S64x48x23 : Shape := ⟨3, ![64, 48, 23]⟩
abbrev S3072x23 : Shape := ⟨2, ![3072, 23]⟩
abbrev S1x23x64 : Shape := ⟨3, ![1, 23, 64]⟩
abbrev S3072x64 : Shape := ⟨2, ![3072, 64]⟩
abbrev S64x48x64 : Shape := ⟨3, ![64, 48, 64]⟩
abbrev S64x240x64 : Shape := ⟨3, ![64, 240, 64]⟩
abbrev S1x64x64 : Shape := ⟨3, ![1, 64, 64]⟩
abbrev S3072x128 : Shape := ⟨2, ![3072, 128]⟩
abbrev S3072x1 : Shape := ⟨2, ![3072, 1]⟩
abbrev S64x48x1 : Shape := ⟨3, ![64, 48, 1]⟩
abbrev S1x128x128 : Shape := ⟨3, ![1, 128, 128]⟩
abbrev S128x128 : Shape := ⟨2, ![128, 128]⟩
abbrev S64x48x128 : Shape := ⟨3, ![64, 48, 128]⟩
abbrev S64x240x128 : Shape := ⟨3, ![64, 240, 128]⟩
abbrev S1024x48 : Shape := ⟨2, ![1024, 48]⟩

abbrev nBuf : Space → Nat
  | .hbm => 55
  | .vmem => 31
  | .smem => 0
  | _ => 0

abbrev bufTy : (tb : Table) → Fin (tcTables nBuf tb) → BufTy
  | .hbm, ⟨0, _⟩ => ⟨S1024x48x23, .f32⟩
  | .hbm, ⟨1, _⟩ => ⟨S1024x48x48x5, .f32⟩
  | .hbm, ⟨2, _⟩ => ⟨S115x64, .f32⟩
  | .hbm, ⟨3, _⟩ => ⟨S23x64, .f32⟩
  | .hbm, ⟨4, _⟩ => ⟨S64, .f32⟩
  | .hbm, ⟨5, _⟩ => ⟨S320x64, .f32⟩
  | .hbm, ⟨6, _⟩ => ⟨S64x64, .f32⟩
  | .hbm, ⟨7, _⟩ => ⟨S64, .f32⟩
  | .hbm, ⟨8, _⟩ => ⟨S320x64, .f32⟩
  | .hbm, ⟨9, _⟩ => ⟨S64x64, .f32⟩
  | .hbm, ⟨10, _⟩ => ⟨S64, .f32⟩
  | .hbm, ⟨11, _⟩ => ⟨S64x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S64x128, .f32⟩
  | .hbm, ⟨16, _⟩ => ⟨S128, .f32⟩
  | .hbm, ⟨17, _⟩ => ⟨S128x24, .f32⟩
  | .hbm, ⟨18, _⟩ => ⟨S24, .f32⟩
  | .hbm, ⟨19, _⟩ => ⟨S64x128, .f32⟩
  | .hbm, ⟨20, _⟩ => ⟨S128, .f32⟩
  | .hbm, ⟨21, _⟩ => ⟨S5x128x128, .f32⟩
  | .hbm, ⟨22, _⟩ => ⟨S48x5x48x1024, .f32⟩
  | .hbm, ⟨23, _⟩ => ⟨S48x240x1024, .f32⟩
  | .hbm, ⟨24, _⟩ => ⟨S23x48x1024, .f32⟩
  | .hbm, ⟨25, _⟩ => ⟨S5x23x64, .f32⟩
  | .hbm, ⟨26, _⟩ => ⟨S5x64x64, .f32⟩
  | .hbm, ⟨27, _⟩ => ⟨S5x64x64, .f32⟩
  | .hbm, ⟨28, _⟩ => ⟨S5x128x128, .f32⟩
  | .hbm, ⟨29, _⟩ => ⟨S5x128x128, .f32⟩
  | .hbm, ⟨30, _⟩ => ⟨S_, .f32⟩
  | .hbm, ⟨31, _⟩ => ⟨S5x128x128, .f32⟩
  | .hbm, ⟨32, _⟩ => ⟨S5x128x128, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S1x128, .f32⟩
  | .hbm, ⟨37, _⟩ => ⟨S1x64, .f32⟩
  | .hbm, ⟨38, _⟩ => ⟨S1x128, .f32⟩
  | .hbm, ⟨39, _⟩ => ⟨S128x23, .f32⟩
  | .hbm, ⟨40, _⟩ => ⟨S23, .f32⟩
  | .hbm, ⟨41, _⟩ => ⟨S1x23, .f32⟩
  | .hbm, ⟨42, _⟩ => ⟨S128x1, .f32⟩
  | .hbm, ⟨43, _⟩ => ⟨S1x128, .f32⟩
  | .hbm, ⟨44, _⟩ => ⟨S1, .f32⟩
  | .hbm, ⟨45, _⟩ => ⟨S_, .f32⟩
  | .hbm, ⟨46, _⟩ => ⟨S23x48x1024, .f32⟩
  | .hbm, ⟨47, _⟩ => ⟨S48x240x1024, .f32⟩
  | .hbm, ⟨48, _⟩ => ⟨S1024x48x1, .f32⟩
  | .hbm, ⟨49, _⟩ => ⟨S1024x48x23, .f32⟩
  | .hbm, ⟨50, _⟩ => ⟨S48x5x48x1024, .f32⟩
  | .hbm, ⟨51, _⟩ => ⟨S1024x48x48x5, .f32⟩
  | .hbm, ⟨52, _⟩ => ⟨S1024x48, .f32⟩
  | .hbm, ⟨53, _⟩ => ⟨S1024x48, .f32⟩
  | .hbm, ⟨54, _⟩ => ⟨S1024x48, .f32⟩
  | .local _ .vmem, ⟨0, _⟩ => ⟨S23x48x128, .f32⟩
  | .local _ .vmem, ⟨1, _⟩ => ⟨S23x48x128, .f32⟩
  | .local _ .vmem, ⟨2, _⟩ => ⟨S48x240x128, .f32⟩
  | .local _ .vmem, ⟨3, _⟩ => ⟨S48x240x128, .f32⟩
  | .local _ .vmem, ⟨4, _⟩ => ⟨S5x23x64, .f32⟩
  | .local _ .vmem, ⟨5, _⟩ => ⟨S23x64, .f32⟩
  | .local _ .vmem, ⟨6, _⟩ => ⟨S1x64, .f32⟩
  | .local _ .vmem, ⟨7, _⟩ => ⟨S5x64x64, .f32⟩
  | .local _ .vmem, ⟨8, _⟩ => ⟨S64x64, .f32⟩
  | .local _ .vmem, ⟨9, _⟩ => ⟨S1x64, .f32⟩
  | .local _ .vmem, ⟨10, _⟩ => ⟨S5x64x64, .f32⟩
  | .local _ .vmem, ⟨11, _⟩ => ⟨S64x64, .f32⟩
  | .local _ .vmem, ⟨12, _⟩ => ⟨S1x64, .f32⟩
  | .local _ .vmem, ⟨13, _⟩ => ⟨S64x128, .f32⟩
  | .local _ .vmem, ⟨14, _⟩ => ⟨S1x128, .f32⟩
  | .local _ .vmem, ⟨15, _⟩ => ⟨S128x64, .f32⟩
  | .local _ .vmem, ⟨16, _⟩ => ⟨S1x64, .f32⟩
  | .local _ .vmem, ⟨17, _⟩ => ⟨S64x128, .f32⟩
  | .local _ .vmem, ⟨18, _⟩ => ⟨S1x128, .f32⟩
  | .local _ .vmem, ⟨19, _⟩ => ⟨S128x23, .f32⟩
  | .local _ .vmem, ⟨20, _⟩ => ⟨S1x23, .f32⟩
  | .local _ .vmem, ⟨21, _⟩ => ⟨S128x1, .f32⟩
  | .local _ .vmem, ⟨22, _⟩ => ⟨S64x128, .f32⟩
  | .local _ .vmem, ⟨23, _⟩ => ⟨S1x128, .f32⟩
  | .local _ .vmem, ⟨24, _⟩ => ⟨S5x128x128, .f32⟩
  | .local _ .vmem, ⟨25, _⟩ => ⟨S23x48x128, .f32⟩
  | .local _ .vmem, ⟨26, _⟩ => ⟨S23x48x128, .f32⟩
  | .local _ .vmem, ⟨27, _⟩ => ⟨S48x240x128, .f32⟩
  | .local _ .vmem, ⟨28, _⟩ => ⟨S48x240x128, .f32⟩
  | .local _ .vmem, ⟨29, _⟩ => ⟨S128x48x1, .f32⟩
  | .local _ .vmem, ⟨30, _⟩ => ⟨S128x48x1, .f32⟩
  | _, _ => ⟨S1024x48x23, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23_0 : Ref sig .tc := ⟨.hbm, 46, rfl⟩
abbrev main_v23_1 : Ref sig .tc := ⟨.hbm, 47, rfl⟩
abbrev main_v23_2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg23_1 : Ref sig .tc := ⟨.vmem, 26, rfl⟩
abbrev cc0_stg24_0 : Ref sig .tc := ⟨.vmem, 27, rfl⟩
abbrev cc0_stg24_1 : Ref sig .tc := ⟨.vmem, 28, rfl⟩
abbrev cc0_stg25_0 : Ref sig .tc := ⟨.vmem, 29, rfl⟩
abbrev cc0_stg25_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem23_1 : DmaSem sig := 26
abbrev cc0_sem24_0 : DmaSem sig := 27
abbrev cc0_sem24_1 : DmaSem sig := 28
abbrev cc0_sem25_0 : DmaSem sig := 29
abbrev cc0_sem25_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S23x48x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S48x240x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x23x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S23x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x23 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x23 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S64x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S5x128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S23x48x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S48x240x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S128x48x1 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== ReferenceIdeal.lean ====
abbrev S1024x48x23 : Shape := ⟨3, ![1024, 48, 23]⟩
abbrev S1024x48x48x5 : Shape := ⟨4, ![1024, 48, 48, 5]⟩
abbrev S115x64 : Shape := ⟨2, ![115, 64]⟩
abbrev S23x64 : Shape := ⟨2, ![23, 64]⟩
abbrev S64 : Shape := ⟨1, ![64]⟩
abbrev S320x64 : Shape := ⟨2, ![320, 64]⟩
abbrev S64x64 : Shape := ⟨2, ![64, 64]⟩
abbrev S64x128 : Shape := ⟨2, ![64, 128]⟩
abbrev S128 : Shape := ⟨1, ![128]⟩
abbrev S128x64 : Shape := ⟨2, ![128, 64]⟩
abbrev S128x24 : Shape := ⟨2, ![128, 24]⟩
abbrev S24 : Shape := ⟨1, ![24]⟩
abbrev S5x128x128 : Shape := ⟨3, ![5, 128, 128]⟩
abbrev S1024x48x5x23 : Shape := ⟨4, ![1024, 48, 5, 23]⟩
abbrev S1024x48x115 : Shape := ⟨3, ![1024, 48, 115]⟩
abbrev S1024x48x64 : Shape := ⟨3, ![1024, 48, 64]⟩
abbrev S1x1x64 : Shape := ⟨3, ![1, 1, 64]⟩
abbrev S_ : Shape := ⟨0, ![]⟩
abbrev S1024x48x5x64 : Shape := ⟨4, ![1024, 48, 5, 64]⟩
abbrev S1024x48x320 : Shape := ⟨3, ![1024, 48, 320]⟩
abbrev S1024x48x128 : Shape := ⟨3, ![1024, 48, 128]⟩
abbrev S1x1x128 : Shape := ⟨3, ![1, 1, 128]⟩
abbrev S1024x48x24 : Shape := ⟨3, ![1024, 48, 24]⟩
abbrev S1x1x24 : Shape := ⟨3, ![1, 1, 24]⟩
abbrev S1024x48x1 : Shape := ⟨3, ![1024, 48, 1]⟩
abbrev S1024x48 : Shape := ⟨2, ![1024, 48]⟩
abbrev S1024x48x5x128 : Shape := ⟨4, ![1024, 48, 5, 128]⟩

abbrev nBuf : Space → Nat
  | .hbm => 95
  | .vmem => 0
  | .smem => 0
  | _ => 0

abbrev bufTy : (tb : Table) → Fin (tcTables nBuf tb) → BufTy
  | .hbm, ⟨0, _⟩ => ⟨S1024x48x23, .f32⟩
  | .hbm, ⟨1, _⟩ => ⟨S1024x48x48x5, .f32⟩
  | .hbm, ⟨2, _⟩ => ⟨S115x64, .f32⟩
  | .hbm, ⟨3, _⟩ => ⟨S23x64, .f32⟩
  | .hbm, ⟨4, _⟩ => ⟨S64, .f32⟩
  | .hbm, ⟨5, _⟩ => ⟨S320x64, .f32⟩
  | .hbm, ⟨6, _⟩ => ⟨S64x64, .f32⟩
  | .hbm, ⟨7, _⟩ => ⟨S64, .f32⟩
  | .hbm, ⟨8, _⟩ => ⟨S320x64, .f32⟩
  | .hbm, ⟨9, _⟩ => ⟨S64x64, .f32⟩
  | .hbm, ⟨10, _⟩ => ⟨S64, .f32⟩
  | .hbm, ⟨11, _⟩ => ⟨S64x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S64x128, .f32⟩
  | .hbm, ⟨16, _⟩ => ⟨S128, .f32⟩
  | .hbm, ⟨17, _⟩ => ⟨S128x24, .f32⟩
  | .hbm, ⟨18, _⟩ => ⟨S24, .f32⟩
  | .hbm, ⟨19, _⟩ => ⟨S64x128, .f32⟩
  | .hbm, ⟨20, _⟩ => ⟨S128, .f32⟩
  | .hbm, ⟨21, _⟩ => ⟨S5x128x128, .f32⟩
  | .hbm, ⟨22, _⟩ => ⟨S1024x48x5x23, .f32⟩
  | .hbm, ⟨23, _⟩ => ⟨S1024x48x115, .f32⟩
  | .hbm, ⟨24, _⟩ => ⟨S1024x48x64, .f32⟩
  | .hbm, ⟨25, _⟩ => ⟨S1024x48x64, .f32⟩
  | .hbm, ⟨26, _⟩ => ⟨S1024x48x64, .f32⟩
  | .hbm, ⟨27, _⟩ => ⟨S1x1x64, .f32⟩
  | .hbm, ⟨28, _⟩ => ⟨S1024x48x64, .f32⟩
  | .hbm, ⟨29, _⟩ => ⟨S1024x48x64, .f32⟩
  | .hbm, ⟨30, _⟩ => ⟨S_, .f32⟩
  | .hbm, ⟨31, _⟩ => ⟨S1024x48x64, .f32⟩
  | .hbm, ⟨32, _⟩ => ⟨S1024x48x64, .f32⟩
  | .hbm, ⟨33, _⟩ => ⟨S1024x48x5x64, .f32⟩
  | .hbm, ⟨34, _⟩ => ⟨S1024x48x320, .f32⟩
  | .hbm, ⟨35, _⟩ => ⟨S1024x48x64, .f32⟩
  | .hbm, ⟨36, _⟩ => ⟨S1024x48x64, .f32⟩
  | .hbm, ⟨37, _⟩ => ⟨S1024x48x64, .f32⟩
  | .hbm, ⟨38, _⟩ => ⟨S1x1x64, .f32⟩
  | .hbm, ⟨39, _⟩ => ⟨S1024x48x64, .f32⟩
  | .hbm, ⟨40, _⟩ => ⟨S1024x48x64, .f32⟩
  | .hbm, ⟨41, _⟩ => ⟨S_, .f32⟩
  | .hbm, ⟨42, _⟩ => ⟨S1024x48x64, .f32⟩
  | .hbm, ⟨43, _⟩ => ⟨S1024x48x64, .f32⟩
  | .hbm, ⟨44, _⟩ => ⟨S1024x48x5x64, .f32⟩
  | .hbm, ⟨45, _⟩ => ⟨S1024x48x320, .f32⟩
  | .hbm, ⟨46, _⟩ => ⟨S1024x48x64, .f32⟩
  | .hbm, ⟨47, _⟩ => ⟨S1024x48x64, .f32⟩
  | .hbm, ⟨48, _⟩ => ⟨S1024x48x64, .f32⟩
  | .hbm, ⟨49, _⟩ => ⟨S1x1x64, .f32⟩
  | .hbm, ⟨50, _⟩ => ⟨S1024x48x64, .f32⟩
  | .hbm, ⟨51, _⟩ => ⟨S1024x48x64, .f32⟩
  | .hbm, ⟨52, _⟩ => ⟨S_, .f32⟩
  | .hbm, ⟨53, _⟩ => ⟨S1024x48x64, .f32⟩
  | .hbm, ⟨54, _⟩ => ⟨S1024x48x64, .f32⟩
  | .hbm, ⟨55, _⟩ => ⟨S1024x48x128, .f32⟩
  | .hbm, ⟨56, _⟩ => ⟨S1x1x128, .f32⟩
  | .hbm, ⟨57, _⟩ => ⟨S1024x48x128, .f32⟩
  | .hbm, ⟨58, _⟩ => ⟨S1024x48x128, .f32⟩
  | .hbm, ⟨59, _⟩ => ⟨S_, .f32⟩
  | .hbm, ⟨60, _⟩ => ⟨S1024x48x128, .f32⟩
  | .hbm, ⟨61, _⟩ => ⟨S1024x48x128, .f32⟩
  | .hbm, ⟨62, _⟩ => ⟨S1024x48x64, .f32⟩
  | .hbm, ⟨63, _⟩ => ⟨S1x1x64, .f32⟩
  | .hbm, ⟨64, _⟩ => ⟨S1024x48x64, .f32⟩
  | .hbm, ⟨65, _⟩ => ⟨S1024x48x64, .f32⟩
  | .hbm, ⟨66, _⟩ => ⟨S1024x48x128, .f32⟩
  | .hbm, ⟨67, _⟩ => ⟨S1x1x128, .f32⟩
  | .hbm, ⟨68, _⟩ => ⟨S1024x48x128, .f32⟩
  | .hbm, ⟨69, _⟩ => ⟨S1024x48x128, .f32⟩
  | .hbm, ⟨70, _⟩ => ⟨S_, .f32⟩
  | .hbm, ⟨71, _⟩ => ⟨S1024x48x128, .f32⟩
  | .hbm, ⟨72, _⟩ => ⟨S1024x48x128, .f32⟩
  | .hbm, ⟨73, _⟩ => ⟨S1024x48x24, .f32⟩
  | .hbm, ⟨74, _⟩ => ⟨S1x1x24, .f32⟩
  | .hbm, ⟨75, _⟩ => ⟨S1024x48x24, .f32⟩
  | .hbm, ⟨76, _⟩ => ⟨S1024x48x24, .f32⟩
  | .hbm, ⟨77, _⟩ => ⟨S1024x48x1, .f32⟩
  | .hbm, ⟨78, _⟩ => ⟨S1024x48, .f32⟩
  | .hbm, ⟨79, _⟩ => ⟨S1024x48x23, .f32⟩
  | .hbm, ⟨80, _⟩ => ⟨S1024x48x128, .f32⟩
  | .hbm, ⟨81, _⟩ => ⟨S1x1x128, .f32⟩
  | .hbm, ⟨82, _⟩ => ⟨S1024x48x128, .f32⟩
  | .hbm, ⟨83, _⟩ => ⟨S1024x48x128, .f32⟩
  | .hbm, ⟨84, _⟩ => ⟨S_, .f32⟩
  | .hbm, ⟨85, _⟩ => ⟨S1024x48x128, .f32⟩
  | .hbm, ⟨86, _⟩ => ⟨S1024x48x128, .f32⟩
  | .hbm, ⟨87, _⟩ => ⟨S1024x48x5x128, .f32⟩
  | .hbm, ⟨88, _⟩ => ⟨S1024x48x48x5, .f32⟩
  | .hbm, ⟨89, _⟩ => ⟨S1024x48x48x5, .f32⟩
  | .hbm, ⟨90, _⟩ => ⟨S1024x48x48x5, .f32⟩
  | .hbm, ⟨91, _⟩ => ⟨S1024x48x48x5, .f32⟩
  | .hbm, ⟨92, _⟩ => ⟨S_, .f32⟩
  | .hbm, ⟨93, _⟩ => ⟨S1024x48x48x5, .f32⟩
  | .hbm, ⟨94, _⟩ => ⟨S1024x48x48x5, .f32⟩
  | _, _ => ⟨S1024x48x23, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_0 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_1 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_2 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_3 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_4 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_5 : Ref sig .tc := ⟨.hbm, 92, rfl⟩
abbrev main_v64 : Ref sig .tc := ⟨.hbm, 93, rfl⟩
abbrev main_v65 : Ref sig .tc := ⟨.hbm, 94, rfl⟩

abbrev nD : Nat := 1
abbrev τ : Topo := Topo.v7x

variable {F : FTy → Type} [FloatOps F]
-- ==== Proof.KernelIdealBody.lean ====
/- The frame of `proofs.«01_k».proof.KernelIdeal`: the text of `Proof/Gen/KernelIdeal/Frame.lean` with the limit of `body_obligation`
   raised, which the generated module states too low for this kernel's twenty-six windows. What it holds: the contents of
   the arrays when the region is entered (`V`), each window's block at a point (`iblk`), what each output's buffer holds
   after the body (`out0_23`, `out0_24`, `out0_25`), the body's triple, the run of @main (`run_main`) and the frame
   (`frame`). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- deciding membership in a rectangle recurses once per coordinate of its long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 312000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg19`: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg20`: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg21`: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host operation after the region writes `main_arg8`: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host operation after the region writes `main_arg10`: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
/-- No host operation after the region writes `main_arg12`: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
/-- No host operation after the region writes `main_arg14`: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c
/-- No host operation after the region writes `main_arg16`: it ends as launched. -/
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c
/-- No host operation after the region writes `main_arg17`: it ends as launched. -/
theorem W_main_arg17 (dats : (p : Fin _) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_main_arg17 m c
/-- No host operation after the region writes `main_arg18`: it ends as launched. -/
theorem W_main_arg18 (dats : (p : Fin _) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) := by
  unfold Pipeline.afterTail₀
  rw [StableHlo.after_of_forall_not_mem (b := Proc.devRef .tc main_arg18) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact V_main_arg18 m c
/-- No host operation after the region writes `main_arg20`: it ends as launched. -/
theorem W_main_arg20 (dats : (p : Fin _) → (c : Dev nD) → Dat τ (Elt F) Unit ℕ (UR sig nD τ) ℕ (cfgs p) c) (c : Dev nD) :
    Pipeline.afterTail₀ cfgs dats 0 (V0 m) [hostOps1] c main_arg20 = m ((c : Thread nD τ).loc main_arg20) := by
  unfold Pipeline.afterTail₀
  rw [StableHlo.after_of_forall_not_mem (b := Proc.devRef .tc main_arg20) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg20 (by exact (by decide : ∀ w, Pipeline.arrRef spec0 w ≠ main_arg20))]
  exact V_main_arg20 m c
/-- No host operation after the region writes `main_arg21`: it ends as launched. -/
theorem W_main_arg21 (dats : (p : Fin _) → (c : Dev nD) → Dat τ (Elt F) Unit ℕ (UR sig nD τ) ℕ (cfgs p) c) (c : Dev nD) :
    Pipeline.afterTail₀ cfgs dats 0 (V0 m) [hostOps1] c main_arg21 = m ((c : Thread nD τ).loc main_arg21) := by
  unfold Pipeline.afterTail₀
  rw [StableHlo.after_of_forall_not_mem (b := Proc.devRef .tc main_arg21) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg21 (by exact (by decide : ∀ w, Pipeline.arrRef spec0 w ≠ main_arg21))]
  exact V_main_arg21 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1560000 in
/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      ((h c).1 3).trans (((dats 0 c).arrAt_in 3 rfl _).trans ((hA c 3).trans (V_main_arg3 m c))),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      ((h c).1 6).trans (((dats 0 c).arrAt_in 6 rfl _).trans ((hA c 6).trans (V_main_arg6 m c))),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      ((h c).1 9).trans (((dats 0 c).arrAt_in 9 rfl _).trans ((hA c 9).trans (V_main_arg9 m c))),
      (((h c).2 main_arg10 (Pipeline.mem_restRefs_of main_arg10 (by decide) (by decide))).trans (W_main_arg10 m dats c)),
      ((h c).1 11).trans (((dats 0 c).arrAt_in 11 rfl _).trans ((hA c 11).trans (V_main_arg11 m c))),
      (((h c).2 main_arg12 (Pipeline.mem_restRefs_of main_arg12 (by decide) (by decide))).trans (W_main_arg12 m dats c)),
      ((h c).1 13).trans (((dats 0 c).arrAt_in 13 rfl _).trans ((hA c 13).trans (V_main_arg13 m c))),
      (((h c).2 main_arg14 (Pipeline.mem_restRefs_of main_arg14 (by decide) (by decide))).trans (W_main_arg14 m dats c)),
      ((h c).1 15).trans (((dats 0 c).arrAt_in 15 rfl _).trans ((hA c 15).trans (V_main_arg15 m c))),
      (((h c).2 main_arg16 (Pipeline.mem_restRefs_of main_arg16 (by decide) (by decide))).trans (W_main_arg16 m dats c)),
      (((h c).2 main_arg17 (Pipeline.mem_restRefs_of main_arg17 (by decide) (by decide))).trans (W_main_arg17 m dats c)),
      (((h c).2 main_arg18 (Pipeline.mem_restRefs_of main_arg18 (by decide) (by decide))).trans (W_main_arg18 m dats c)),
      ((h c).1 20).trans (((dats 0 c).arrAt_in 20 rfl _).trans ((hA c 20).trans (V_main_arg19 m c))),
      (((h c).2 main_arg20 (Pipeline.mem_restRefs_of main_arg20 (by decide) (by decide))).trans (W_main_arg20 m dats c)),
      (((h c).2 main_arg21 (Pipeline.mem_restRefs_of main_arg21 (by decide) (by decide))).trans (W_main_arg21 m dats c))⟩) h

/-! ## The body's accesses -/

abbrev r0_0 : Rect S48x240x128 := Rect.unit (s := S48x240x128) ![0, 0, 0] S48x240x64.size inb_S48x240x128_S48x240x64_0_0_0
abbrev r0_1 : Rect S23x48x128 := Rect.unit (s := S23x48x128) ![0, 0, 0] S23x48x64.size inb_S23x48x128_S23x48x64_0_0_0
abbrev r0_2 : Rect S5x23x64 := Rect.unit (s := S5x23x64) ![0, 0, 0] S1x23x64.size inb_S5x23x64_S1x23x64_0_0_0
abbrev r0_3 : Rect S5x23x64 := Rect.unit (s := S5x23x64) ![1, 0, 0] S1x23x64.size inb_S5x23x64_S1x23x64_1_0_0
abbrev r0_4 : Rect S5x23x64 := Rect.unit (s := S5x23x64) ![2, 0, 0] S1x23x64.size inb_S5x23x64_S1x23x64_2_0_0
abbrev r0_5 : Rect S5x23x64 := Rect.unit (s := S5x23x64) ![3, 0, 0] S1x23x64.size inb_S5x23x64_S1x23x64_3_0_0
abbrev r0_6 : Rect S5x23x64 := Rect.unit (s := S5x23x64) ![4, 0, 0] S1x23x64.size inb_S5x23x64_S1x23x64_4_0_0
abbrev r0_7 : Rect S23x64 := Rect.unit (s := S23x64) ![0, 0] S23x64.size inb_S23x64_S23x64_0_0
abbrev r0_8 : Rect S1x64 := Rect.unit (s := S1x64) ![0, 0] S1x64.size inb_S1x64_S1x64_0_0
abbrev r0_9 : Rect S5x64x64 := Rect.unit (s := S5x64x64) ![0, 0, 0] S1x64x64.size inb_S5x64x64_S1x64x64_0_0_0
abbrev r0_10 : Rect S5x64x64 := Rect.unit (s := S5x64x64) ![1, 0, 0] S1x64x64.size inb_S5x64x64_S1x64x64_1_0_0
abbrev r0_11 : Rect S5x64x64 := Rect.unit (s := S5x64x64) ![2, 0, 0] S1x64x64.size inb_S5x64x64_S1x64x64_2_0_0
abbrev r0_12 : Rect S5x64x64 := Rect.unit (s := S5x64x64) ![3, 0, 0] S1x64x64.size inb_S5x64x64_S1x64x64_3_0_0
abbrev r0_13 : Rect S5x64x64 := Rect.unit (s := S5x64x64) ![4, 0, 0] S1x64x64.size inb_S5x64x64_S1x64x64_4_0_0
abbrev r0_14 : Rect S64x64 := Rect.unit (s := S64x64) ![0, 0] S64x64.size inb_S64x64_S64x64_0_0
abbrev r0_15 : Rect S64x128 := Rect.unit (s := S64x128) ![0, 0] S64x128.size inb_S64x128_S64x128_0_0
abbrev r0_16 : Rect S1x128 := Rect.unit (s := S1x128) ![0, 0] S1x128.size inb_S1x128_S1x128_0_0
abbrev r0_17 : Rect S128x64 := Rect.unit (s := S128x64) ![0, 0] S128x64.size inb_S128x64_S128x64_0_0
abbrev r0_18 : Rect S128x23 := Rect.unit (s := S128x23) ![0, 0] S128x23.size inb_S128x23_S128x23_0_0
abbrev r0_19 : Rect S1x23 := Rect.unit (s := S1x23) ![0, 0] S1x23.size inb_S1x23_S1x23_0_0
abbrev r0_20 : Rect S128x1 := Rect.unit (s := S128x1) ![0, 0] S128x1.size inb_S128x1_S128x1_0_0
abbrev r0_21 : Rect S128x48x1 := Rect.unit (s := S128x48x1) ![0, 0, 0] S64x48x1.size inb_S128x48x1_S64x48x1_0_0_0
abbrev r0_22 : Rect S5x128x128 := Rect.unit (s := S5x128x128) ![0, 0, 0] S1x128x128.size inb_S5x128x128_S1x128x128_0_0_0
abbrev r0_23 : Rect S5x128x128 := Rect.unit (s := S5x128x128) ![1, 0, 0] S1x128x128.size inb_S5x128x128_S1x128x128_1_0_0
abbrev r0_24 : Rect S5x128x128 := Rect.unit (s := S5x128x128) ![2, 0, 0] S1x128x128.size inb_S5x128x128_S1x128x128_2_0_0
abbrev r0_25 : Rect S5x128x128 := Rect.unit (s := S5x128x128) ![3, 0, 0] S1x128x128.size inb_S5x128x128_S1x128x128_3_0_0
abbrev r0_26 : Rect S5x128x128 := Rect.unit (s := S5x128x128) ![4, 0, 0] S1x128x128.size inb_S5x128x128_S1x128x128_4_0_0
abbrev r0_27 : Rect S48x240x128 := Rect.unit (s := S48x240x128) ![0, 0, 64] S48x240x64.size inb_S48x240x128_S48x240x64_0_0_64
abbrev r0_28 : Rect S23x48x128 := Rect.unit (s := S23x48x128) ![0, 0, 64] S23x48x64.size inb_S23x48x128_S23x48x64_0_0_64
abbrev r0_29 : Rect S128x48x1 := Rect.unit (s := S128x48x1) ![64, 0, 0] S64x48x1.size inb_S128x48x1_S64x48x1_64_0_0

/-! ## What the body leaves in each output window's buffer -/

/-! ### Values of the body that the stores' payloads, spelt out, would write more than once

    Each is a vector the body binds (often a part call's result), stated over the input windows' blocks and
    numbered on from the skeleton's payload functions (`k0_pay38` …, after `k0_pay37`), so that
    `out0_W` and the values after it name it instead of spelling it out (a proof may unfold a canon
    with them, `unfold_payloads` opens them with the payloads); the comment after each is the printed function's
    name for the value (a count appended where that name is bound again). -/

def k0_pay38 (x0 : Vec F S23x48x128 .f32) (x1 : Vec F S48x240x128 .f32) (x2 : Vec F S5x23x64 .f32) (x3 : Vec F S23x64 .f32) (x4 : Vec F S1x64 .f32) (x5 : Vec F S5x64x64 .f32) (x6 : Vec F S64x64 .f32) (x7 : Vec F S1x64 .f32) (x8 : Vec F S5x64x64 .f32) (x9 : Vec F S64x64 .f32) (x10 : Vec F S1x64 .f32) (x11 : Vec F S64x128 .f32) (x12 : Vec F S1x128 .f32) (x13 : Vec F S128x64 .f32) (x14 : Vec F S1x64 .f32) (x15 : Vec F S64x128 .f32) (x16 : Vec F S1x128 .f32) (x17 : Vec F S128x23 .f32) (x18 : Vec F S1x23 .f32) (x19 : Vec F S128x1 .f32) (x20 : Vec F S64x128 .f32) (x21 : Vec F S1x128 .f32) (x22 : Vec F S5x128x128 .f32) : FVec F S64x48x240 .f32 :=
  k0_pay2 (View.ld x1 r0_0) -- `v2`
def k0_pay39 (x0 : Vec F S23x48x128 .f32) (x1 : Vec F S48x240x128 .f32) (x2 : Vec F S5x23x64 .f32) (x3 : Vec F S23x64 .f32) (x4 : Vec F S1x64 .f32) (x5 : Vec F S5x64x64 .f32) (x6 : Vec F S64x64 .f32) (x7 : Vec F S1x64 .f32) (x8 : Vec F S5x64x64 .f32) (x9 : Vec F S64x64 .f32) (x10 : Vec F S1x64 .f32) (x11 : Vec F S64x128 .f32) (x12 : Vec F S1x128 .f32) (x13 : Vec F S128x64 .f32) (x14 : Vec F S1x64 .f32) (x15 : Vec F S64x128 .f32) (x16 : Vec F S1x128 .f32) (x17 : Vec F S128x23 .f32) (x18 : Vec F S1x23 .f32) (x19 : Vec F S128x1 .f32) (x20 : Vec F S64x128 .f32) (x21 : Vec F S1x128 .f32) (x22 : Vec F S5x128x128 .f32) : FVec F S3072x23 .f32 :=
  k0_pay3 (View.ld x0 r0_1) -- `v6`
def k0_pay40 (x0 : Vec F S23x48x128 .f32) (x1 : Vec F S48x240x128 .f32) (x2 : Vec F S5x23x64 .f32) (x3 : Vec F S23x64 .f32) (x4 : Vec F S1x64 .f32) (x5 : Vec F S5x64x64 .f32) (x6 : Vec F S64x64 .f32) (x7 : Vec F S1x64 .f32) (x8 : Vec F S5x64x64 .f32) (x9 : Vec F S64x64 .f32) (x10 : Vec F S1x64 .f32) (x11 : Vec F S64x128 .f32) (x12 : Vec F S1x128 .f32) (x13 : Vec F S128x64 .f32) (x14 : Vec F S1x64 .f32) (x15 : Vec F S64x128 .f32) (x16 : Vec F S1x128 .f32) (x17 : Vec F S128x23 .f32) (x18 : Vec F S1x23 .f32) (x19 : Vec F S128x1 .f32) (x20 : Vec F S64x128 .f32) (x21 : Vec F S1x128 .f32) (x22 : Vec F S5x128x128 .f32) : FVec F S3072x64 .f32 :=
  k0_pay4 (View.ld x1 r0_0) (View.ld x0 r0_1) (View.ld x2 r0_2) (View.ld x2 r0_3) (View.ld x2 r0_4) (View.ld x2 r0_5) (View.ld x2 r0_6) -- `v29`
def k0_pay41 (x0 : Vec F S23x48x128 .f32) (x1 : Vec F S48x240x128 .f32) (x2 : Vec F S5x23x64 .f32) (x3 : Vec F S23x64 .f32) (x4 : Vec F S1x64 .f32) (x5 : Vec F S5x64x64 .f32) (x6 : Vec F S64x64 .f32) (x7 : Vec F S1x64 .f32) (x8 : Vec F S5x64x64 .f32) (x9 : Vec F S64x64 .f32) (x10 : Vec F S1x64 .f32) (x11 : Vec F S64x128 .f32) (x12 : Vec F S1x128 .f32) (x13 : Vec F S128x64 .f32) (x14 : Vec F S1x64 .f32) (x15 : Vec F S64x128 .f32) (x16 : Vec F S1x128 .f32) (x17 : Vec F S128x23 .f32) (x18 : Vec F S1x23 .f32) (x19 : Vec F S128x1 .f32) (x20 : Vec F S64x128 .f32) (x21 : Vec F S1x128 .f32) (x22 : Vec F S5x128x128 .f32) : FVec F S3072x64 .f32 :=
  k0_pay5 (k0_pay39 x0 x1 x2 x3 x4 x5 x6 x7 x8 x9 x10 x11 x12 x13 x14 x15 x16 x17 x18 x19 x20 x21 x22) (k0_pay40 x0 x1 x2 x3 x4 x5 x6 x7 x8 x9 x10 x11 x12 x13 x14 x15 x16 x17 x18 x19 x20 x21 x22) (View.ld x3 r0_7) (View.ld x4 r0_8) -- `v38`
def k0_pay42 (x0 : Vec F S23x48x128 .f32) (x1 : Vec F S48x240x128 .f32) (x2 : Vec F S5x23x64 .f32) (x3 : Vec F S23x64 .f32) (x4 : Vec F S1x64 .f32) (x5 : Vec F S5x64x64 .f32) (x6 : Vec F S64x64 .f32) (x7 : Vec F S1x64 .f32) (x8 : Vec F S5x64x64 .f32) (x9 : Vec F S64x64 .f32) (x10 : Vec F S1x64 .f32) (x11 : Vec F S64x128 .f32) (x12 : Vec F S1x128 .f32) (x13 : Vec F S128x64 .f32) (x14 : Vec F S1x64 .f32) (x15 : Vec F S64x128 .f32) (x16 : Vec F S1x128 .f32) (x17 : Vec F S128x23 .f32) (x18 : Vec F S1x23 .f32) (x19 : Vec F S128x1 .f32) (x20 : Vec F S64x128 .f32) (x21 : Vec F S1x128 .f32) (x22 : Vec F S5x128x128 .f32) : FVec F S3072x64 .f32 :=
  k0_pay6 (k0_pay38 x0 x1 x2 x3 x4 x5 x6 x7 x8 x9 x10 x11 x12 x13 x14 x15 x16 x17 x18 x19 x20 x21 x22) (k0_pay39 x0 x1 x2 x3 x4 x5 x6 x7 x8 x9 x10 x11 x12 x13 x14 x15 x16 x17 x18 x19 x20 x21 x22) (k0_pay40 x0 x1 x2 x3 x4 x5 x6 x7 x8 x9 x10 x11 x12 x13 x14 x15 x16 x17 x18 x19 x20 x21 x22) (View.ld x3 r0_7) (View.ld x4 r0_8) (View.ld x5 r0_9) (View.ld x5 r0_10) (View.ld x5 r0_11) (View.ld x5 r0_12) (View.ld x5 r0_13) -- `v61`
def k0_pay43 (x0 : Vec F S23x48x128 .f32) (x1 : Vec F S48x240x128 .f32) (x2 : Vec F S5x23x64 .f32) (x3 : Vec F S23x64 .f32) (x4 : Vec F S1x64 .f32) (x5 : Vec F S5x64x64 .f32) (x6 : Vec F S64x64 .f32) (x7 : Vec F S1x64 .f32) (x8 : Vec F S5x64x64 .f32) (x9 : Vec F S64x64 .f32) (x10 : Vec F S1x64 .f32) (x11 : Vec F S64x128 .f32) (x12 : Vec F S1x128 .f32) (x13 : Vec F S128x64 .f32) (x14 : Vec F S1x64 .f32) (x15 : Vec F S64x128 .f32) (x16 : Vec F S1x128 .f32) (x17 : Vec F S128x23 .f32) (x18 : Vec F S1x23 .f32) (x19 : Vec F S128x1 .f32) (x20 : Vec F S64x128 .f32) (x21 : Vec F S1x128 .f32) (x22 : Vec F S5x128x128 .f32) : FVec F S3072x64 .f32 :=
  constant S3072x64 .f32 0x00000000#32 -- `cst_77`
def k0_pay44 (x0 : Vec F S23x48x128 .f32) (x1 : Vec F S48x240x128 .f32) (x2 : Vec F S5x23x64 .f32) (x3 : Vec F S23x64 .f32) (x4 : Vec F S1x64 .f32) (x5 : Vec F S5x64x64 .f32) (x6 : Vec F S64x64 .f32) (x7 : Vec F S1x64 .f32) (x8 : Vec F S5x64x64 .f32) (x9 : Vec F S64x64 .f32) (x10 : Vec F S1x64 .f32) (x11 : Vec F S64x128 .f32) (x12 : Vec F S1x128 .f32) (x13 : Vec F S128x64 .f32) (x14 : Vec F S1x64 .f32) (x15 : Vec F S64x128 .f32) (x16 : Vec F S1x128 .f32) (x17 : Vec F S128x23 .f32) (x18 : Vec F S1x23 .f32) (x19 : Vec F S128x1 .f32) (x20 : Vec F S64x128 .f32) (x21 : Vec F S1x128 .f32) (x22 : Vec F S5x128x128 .f32) : FVec F S3072x64 .f32 :=
  k0_pay7 (k0_pay41 x0 x1 x2 x3 x4 x5 x6 x7 x8 x9 x10 x11 x12 x13 x14 x15 x16 x17 x18 x19 x20 x21 x22) (k0_pay42 x0 x1 x2 x3 x4 x5 x6 x7 x8 x9 x10 x11 x12 x13 x14 x15 x16 x17 x18 x19 x20 x21 x22) (View.ld x6 r0_14) (View.ld x7 r0_8) -- `v70`
def k0_pay45 (x0 : Vec F S23x48x128 .f32) (x1 : Vec F S48x240x128 .f32) (x2 : Vec F S5x23x64 .f32) (x3 : Vec F S23x64 .f32) (x4 : Vec F S1x64 .f32) (x5 : Vec F S5x64x64 .f32) (x6 : Vec F S64x64 .f32) (x7 : Vec F S1x64 .f32) (x8 : Vec F S5x64x64 .f32) (x9 : Vec F S64x64 .f32) (x10 : Vec F S1x64 .f32) (x11 : Vec F S64x128 .f32) (x12 : Vec F S1x128 .f32) (x13 : Vec F S128x64 .f32) (x14 : Vec F S1x64 .f32) (x15 : Vec F S64x128 .f32) (x16 : Vec F S1x128 .f32) (x17 : Vec F S128x23 .f32) (x18 : Vec F S1x23 .f32) (x19 : Vec F S128x1 .f32) (x20 : Vec F S64x128 .f32) (x21 : Vec F S1x128 .f32) (x22 : Vec F S5x128x128 .f32) : FVec F S3072x64 .f32 :=
  k0_pay8 (k0_pay38 x0 x1 x2 x3 x4 x5 x6 x7 x8 x9 x10 x11 x12 x13 x14 x15 x16 x17 x18 x19 x20 x21 x22) (k0_pay41 x0 x1 x2 x3 x4 x5 x6 x7 x8 x9 x10 x11 x12 x13 x14 x15 x16 x17 x18 x19 x20 x21 x22) (k0_pay42 x0 x1 x2 x3 x4 x5 x6 x7 x8 x9 x10 x11 x12 x13 x14 x15 x16 x17 x18 x19 x20 x21 x22) (View.ld x6 r0_14) (View.ld x7 r0_8) (View.ld x8 r0_9) (View.ld x8 r0_10) (View.ld x8 r0_11) (View.ld x8 r0_12) (View.ld x8 r0_13) -- `v93`
def k0_pay46 (x0 : Vec F S23x48x128 .f32) (x1 : Vec F S48x240x128 .f32) (x2 : Vec F S5x23x64 .f32) (x3 : Vec F S23x64 .f32) (x4 : Vec F S1x64 .f32) (x5 : Vec F S5x64x64 .f32) (x6 : Vec F S64x64 .f32) (x7 : Vec F S1x64 .f32) (x8 : Vec F S5x64x64 .f32) (x9 : Vec F S64x64 .f32) (x10 : Vec F S1x64 .f32) (x11 : Vec F S64x128 .f32) (x12 : Vec F S1x128 .f32) (x13 : Vec F S128x64 .f32) (x14 : Vec F S1x64 .f32) (x15 : Vec F S64x128 .f32) (x16 : Vec F S1x128 .f32) (x17 : Vec F S128x23 .f32) (x18 : Vec F S1x23 .f32) (x19 : Vec F S128x1 .f32) (x20 : Vec F S64x128 .f32) (x21 : Vec F S1x128 .f32) (x22 : Vec F S5x128x128 .f32) : FVec F S3072x64 .f32 :=
  k0_pay9 (k0_pay44 x0 x1 x2 x3 x4 x5 x6 x7 x8 x9 x10 x11 x12 x13 x14 x15 x16 x17 x18 x19 x20 x21 x22) (k0_pay45 x0 x1 x2 x3 x4 x5 x6 x7 x8 x9 x10 x11 x12 x13 x14 x15 x16 x17 x18 x19 x20 x21 x22) (View.ld x9 r0_14) (k0_pay43 x0 x1 x2 x3 x4 x5 x6 x7 x8 x9 x10 x11 x12 x13 x14 x15 x16 x17 x18 x19 x20 x21 x22) (View.ld x10 r0_8) (View.ld x11 r0_15) (View.ld x12 r0_16) (View.ld x13 r0_17) (View.ld x14 r0_8) -- `v116`
def k0_pay47 (x0 : Vec F S23x48x128 .f32) (x1 : Vec F S48x240x128 .f32) (x2 : Vec F S5x23x64 .f32) (x3 : Vec F S23x64 .f32) (x4 : Vec F S1x64 .f32) (x5 : Vec F S5x64x64 .f32) (x6 : Vec F S64x64 .f32) (x7 : Vec F S1x64 .f32) (x8 : Vec F S5x64x64 .f32) (x9 : Vec F S64x64 .f32) (x10 : Vec F S1x64 .f32) (x11 : Vec F S64x128 .f32) (x12 : Vec F S1x128 .f32) (x13 : Vec F S128x64 .f32) (x14 : Vec F S1x64 .f32) (x15 : Vec F S64x128 .f32) (x16 : Vec F S1x128 .f32) (x17 : Vec F S128x23 .f32) (x18 : Vec F S1x23 .f32) (x19 : Vec F S128x1 .f32) (x20 : Vec F S64x128 .f32) (x21 : Vec F S1x128 .f32) (x22 : Vec F S5x128x128 .f32) : FVec F S3072x64 .f32 :=
  constant S3072x64 .f32 0x00000000#32 -- `cst_158`
def k0_pay48 (x0 : Vec F S23x48x128 .f32) (x1 : Vec F S48x240x128 .f32) (x2 : Vec F S5x23x64 .f32) (x3 : Vec F S23x64 .f32) (x4 : Vec F S1x64 .f32) (x5 : Vec F S5x64x64 .f32) (x6 : Vec F S64x64 .f32) (x7 : Vec F S1x64 .f32) (x8 : Vec F S5x64x64 .f32) (x9 : Vec F S64x64 .f32) (x10 : Vec F S1x64 .f32) (x11 : Vec F S64x128 .f32) (x12 : Vec F S1x128 .f32) (x13 : Vec F S128x64 .f32) (x14 : Vec F S1x64 .f32) (x15 : Vec F S64x128 .f32) (x16 : Vec F S1x128 .f32) (x17 : Vec F S128x23 .f32) (x18 : Vec F S1x23 .f32) (x19 : Vec F S128x1 .f32) (x20 : Vec F S64x128 .f32) (x21 : Vec F S1x128 .f32) (x22 : Vec F S5x128x128 .f32) : FVec F S64x48x240 .f32 :=
  k0_pay20 (View.ld x1 r0_27) -- `v175`
def k0_pay49 (x0 : Vec F S23x48x128 .f32) (x1 : Vec F S48x240x128 .f32) (x2 : Vec F S5x23x64 .f32) (x3 : Vec F S23x64 .f32) (x4 : Vec F S1x64 .f32) (x5 : Vec F S5x64x64 .f32) (x6 : Vec F S64x64 .f32) (x7 : Vec F S1x64 .f32) (x8 : Vec F S5x64x64 .f32) (x9 : Vec F S64x64 .f32) (x10 : Vec F S1x64 .f32) (x11 : Vec F S64x128 .f32) (x12 : Vec F S1x128 .f32) (x13 : Vec F S128x64 .f32) (x14 : Vec F S1x64 .f32) (x15 : Vec F S64x128 .f32) (x16 : Vec F S1x128 .f32) (x17 : Vec F S128x23 .f32) (x18 : Vec F S1x23 .f32) (x19 : Vec F S128x1 .f32) (x20 : Vec F S64x128 .f32) (x21 : Vec F S1x128 .f32) (x22 : Vec F S5x128x128 .f32) : FVec F S3072x23 .f32 :=
  k0_pay21 (View.ld x0 r0_28) -- `v179`
def k0_pay50 (x0 : Vec F S23x48x128 .f32) (x1 : Vec F S48x240x128 .f32) (x2 : Vec F S5x23x64 .f32) (x3 : Vec F S23x64 .f32) (x4 : Vec F S1x64 .f32) (x5 : Vec F S5x64x64 .f32) (x6 : Vec F S64x64 .f32) (x7 : Vec F S1x64 .f32) (x8 : Vec F S5x64x64 .f32) (x9 : Vec F S64x64 .f32) (x10 : Vec F S1x64 .f32) (x11 : Vec F S64x128 .f32) (x12 : Vec F S1x128 .f32) (x13 : Vec F S128x64 .f32) (x14 : Vec F S1x64 .f32) (x15 : Vec F S64x128 .f32) (x16 : Vec F S1x128 .f32) (x17 : Vec F S128x23 .f32) (x18 : Vec F S1x23 .f32) (x19 : Vec F S128x1 .f32) (x20 : Vec F S64x128 .f32) (x21 : Vec F S1x128 .f32) (x22 : Vec F S5x128x128 .f32) : FVec F S64x48x64 .f32 :=
  k0_pay22 (View.ld x0 r0_28) (View.ld x2 r0_2) -- `v183`
def k0_pay51 (x0 : Vec F S23x48x128 .f32) (x1 : Vec F S48x240x128 .f32) (x2 : Vec F S5x23x64 .f32) (x3 : Vec F S23x64 .f32) (x4 : Vec F S1x64 .f32) (x5 : Vec F S5x64x64 .f32) (x6 : Vec F S64x64 .f32) (x7 : Vec F S1x64 .f32) (x8 : Vec F S5x64x64 .f32) (x9 : Vec F S64x64 .f32) (x10 : Vec F S1x64 .f32) (x11 : Vec F S64x128 .f32) (x12 : Vec F S1x128 .f32) (x13 : Vec F S128x64 .f32) (x14 : Vec F S1x64 .f32) (x15 : Vec F S64x128 .f32) (x16 : Vec F S1x128 .f32) (x17 : Vec F S128x23 .f32) (x18 : Vec F S1x23 .f32) (x19 : Vec F S128x1 .f32) (x20 : Vec F S64x128 .f32) (x21 : Vec F S1x128 .f32) (x22 : Vec F S5x128x128 .f32) : FVec F S64x48x64 .f32 :=
  k0_pay23 (View.ld x0 r0_28) (View.ld x2 r0_3) -- `v187`
def k0_pay52 (x0 : Vec F S23x48x128 .f32) (x1 : Vec F S48x240x128 .f32) (x2 : Vec F S5x23x64 .f32) (x3 : Vec F S23x64 .f32) (x4 : Vec F S1x64 .f32) (x5 : Vec F S5x64x64 .f32) (x6 : Vec F S64x64 .f32) (x7 : Vec F S1x64 .f32) (x8 : Vec F S5x64x64 .f32) (x9 : Vec F S64x64 .f32) (x10 : Vec F S1x64 .f32) (x11 : Vec F S64x128 .f32) (x12 : Vec F S1x128 .f32) (x13 : Vec F S128x64 .f32) (x14 : Vec F S1x64 .f32) (x15 : Vec F S64x128 .f32) (x16 : Vec F S1x128 .f32) (x17 : Vec F S128x23 .f32) (x18 : Vec F S1x23 .f32) (x19 : Vec F S128x1 .f32) (x20 : Vec F S64x128 .f32) (x21 : Vec F S1x128 .f32) (x22 : Vec F S5x128x128 .f32) : FVec F S23x64 .f32 :=
  k0_pay24 (View.ld x2 r0_4) -- `v189`
def k0_pay53 (x0 : Vec F S23x48x128 .f32) (x1 : Vec F S48x240x128 .f32) (x2 : Vec F S5x23x64 .f32) (x3 : Vec F S23x64 .f32) (x4 : Vec F S1x64 .f32) (x5 : Vec F S5x64x64 .f32) (x6 : Vec F S64x64 .f32) (x7 : Vec F S1x64 .f32) (x8 : Vec F S5x64x64 .f32) (x9 : Vec F S64x64 .f32) (x10 : Vec F S1x64 .f32) (x11 : Vec F S64x128 .f32) (x12 : Vec F S1x128 .f32) (x13 : Vec F S128x64 .f32) (x14 : Vec F S1x64 .f32) (x15 : Vec F S64x128 .f32) (x16 : Vec F S1x128 .f32) (x17 : Vec F S128x23 .f32) (x18 : Vec F S1x23 .f32) (x19 : Vec F S128x1 .f32) (x20 : Vec F S64x128 .f32) (x21 : Vec F S1x128 .f32) (x22 : Vec F S5x128x128 .f32) : FVec F S3072x64 .f32 :=
  k0_pay25 (k0_pay48 x0 x1 x2 x3 x4 x5 x6 x7 x8 x9 x10 x11 x12 x13 x14 x15 x16 x17 x18 x19 x20 x21 x22) (k0_pay49 x0 x1 x2 x3 x4 x5 x6 x7 x8 x9 x10 x11 x12 x13 x14 x15 x16 x17 x18 x19 x20 x21 x22) (k0_pay50 x0 x1 x2 x3 x4 x5 x6 x7 x8 x9 x10 x11 x12 x13 x14 x15 x16 x17 x18 x19 x20 x21 x22) (k0_pay51 x0 x1 x2 x3 x4 x5 x6 x7 x8 x9 x10 x11 x12 x13 x14 x15 x16 x17 x18 x19 x20 x21 x22) (k0_pay52 x0 x1 x2 x3 x4 x5 x6 x7 x8 x9 x10 x11 x12 x13 x14 x15 x16 x17 x18 x19 x20 x21 x22) (k0_pay47 x0 x1 x2 x3 x4 x5 x6 x7 x8 x9 x10 x11 x12 x13 x14 x15 x16 x17 x18 x19 x20 x21 x22) (View.ld x2 r0_5) (View.ld x2 r0_6) (View.ld x3 r0_7) (View.ld x4 r0_8) -- `v211`
def k0_pay54 (x0 : Vec F S23x48x128 .f32) (x1 : Vec F S48x240x128 .f32) (x2 : Vec F S5x23x64 .f32) (x3 : Vec F S23x64 .f32) (x4 : Vec F S1x64 .f32) (x5 : Vec F S5x64x64 .f32) (x6 : Vec F S64x64 .f32) (x7 : Vec F S1x64 .f32) (x8 : Vec F S5x64x64 .f32) (x9 : Vec F S64x64 .f32) (x10 : Vec F S1x64 .f32) (x11 : Vec F S64x128 .f32) (x12 : Vec F S1x128 .f32) (x13 : Vec F S128x64 .f32) (x14 : Vec F S1x64 .f32) (x15 : Vec F S64x128 .f32) (x16 : Vec F S1x128 .f32) (x17 : Vec F S128x23 .f32) (x18 : Vec F S1x23 .f32) (x19 : Vec F S128x1 .f32) (x20 : Vec F S64x128 .f32) (x21 : Vec F S1x128 .f32) (x22 : Vec F S5x128x128 .f32) : FVec F S64x48x64 .f32 :=
  k0_pay26 (k0_pay48 x0 x1 x2 x3 x4 x5 x6 x7 x8 x9 x10 x11 x12 x13 x14 x15 x16 x17 x18 x19 x20 x21 x22) (k0_pay49 x0 x1 x2 x3 x4 x5 x6 x7 x8 x9 x10 x11 x12 x13 x14 x15 x16 x17 x18 x19 x20 x21 x22) (k0_pay50 x0 x1 x2 x3 x4 x5 x6 x7 x8 x9 x10 x11 x12 x13 x14 x15 x16 x17 x18 x19 x20 x21 x22) (k0_pay51 x0 x1 x2 x3 x4 x5 x6 x7 x8 x9 x10 x11 x12 x13 x14 x15 x16 x17 x18 x19 x20 x21 x22) (k0_pay52 x0 x1 x2 x3 x4 x5 x6 x7 x8 x9 x10 x11 x12 x13 x14 x15 x16 x17 x18 x19 x20 x21 x22) (k0_pay47 x0 x1 x2 x3 x4 x5 x6 x7 x8 x9 x10 x11 x12 x13 x14 x15 x16 x17 x18 x19 x20 x21 x22) (View.ld x2 r0_5) (View.ld x2 r0_6) (View.ld x3 r0_7) (View.ld x4 r0_8) (View.ld x5 r0_9) -- `v215`
def k0_pay55 (x0 : Vec F S23x48x128 .f32) (x1 : Vec F S48x240x128 .f32) (x2 : Vec F S5x23x64 .f32) (x3 : Vec F S23x64 .f32) (x4 : Vec F S1x64 .f32) (x5 : Vec F S5x64x64 .f32) (x6 : Vec F S64x64 .f32) (x7 : Vec F S1x64 .f32) (x8 : Vec F S5x64x64 .f32) (x9 : Vec F S64x64 .f32) (x10 : Vec F S1x64 .f32) (x11 : Vec F S64x128 .f32) (x12 : Vec F S1x128 .f32) (x13 : Vec F S128x64 .f32) (x14 : Vec F S1x64 .f32) (x15 : Vec F S64x128 .f32) (x16 : Vec F S1x128 .f32) (x17 : Vec F S128x23 .f32) (x18 : Vec F S1x23 .f32) (x19 : Vec F S128x1 .f32) (x20 : Vec F S64x128 .f32) (x21 : Vec F S1x128 .f32) (x22 : Vec F S5x128x128 .f32) : FVec F S64x48x64 .f32 :=
  k0_pay27 (k0_pay48 x0 x1 x2 x3 x4 x5 x6 x7 x8 x9 x10 x11 x12 x13 x14 x15 x16 x17 x18 x19 x20 x21 x22) (k0_pay49 x0 x1 x2 x3 x4 x5 x6 x7 x8 x9 x10 x11 x12 x13 x14 x15 x16 x17 x18 x19 x20 x21 x22) (k0_pay50 x0 x1 x2 x3 x4 x5 x6 x7 x8 x9 x10 x11 x12 x13 x14 x15 x16 x17 x18 x19 x20 x21 x22) (k0_pay51 x0 x1 x2 x3 x4 x5 x6 x7 x8 x9 x10 x11 x12 x13 x14 x15 x16 x17 x18 x19 x20 x21 x22) (k0_pay52 x0 x1 x2 x3 x4 x5 x6 x7 x8 x9 x10 x11 x12 x13 x14 x15 x16 x17 x18 x19 x20 x21 x22) (k0_pay47 x0 x1 x2 x3 x4 x5 x6 x7 x8 x9 x10 x11 x12 x13 x14 x15 x16 x17 x18 x19 x20 x21 x22) (View.ld x2 r0_5) (View.ld x2 r0_6) (View.ld x3 r0_7) (View.ld x4 r0_8) (View.ld x5 r0_10) -- `v219`
def k0_pay56 (x0 : Vec F S23x48x128 .f32) (x1 : Vec F S48x240x128 .f32) (x2 : Vec F S5x23x64 .f32) (x3 : Vec F S23x64 .f32) (x4 : Vec F S1x64 .f32) (x5 : Vec F S5x64x64 .f32) (x6 : Vec F S64x64 .f32) (x7 : Vec F S1x64 .f32) (x8 : Vec F S5x64x64 .f32) (x9 : Vec F S64x64 .f32) (x10 : Vec F S1x64 .f32) (x11 : Vec F S64x128 .f32) (x12 : Vec F S1x128 .f32) (x13 : Vec F S128x64 .f32) (x14 : Vec F S1x64 .f32) (x15 : Vec F S64x128 .f32) (x16 : Vec F S1x128 .f32) (x17 : Vec F S128x23 .f32) (x18 : Vec F S1x23 .f32) (x19 : Vec F S128x1 .f32) (x20 : Vec F S64x128 .f32) (x21 : Vec F S1x128 .f32) (x22 : Vec F S5x128x128 .f32) : FVec F S3072x64 .f32 :=
  k0_pay28 (k0_pay48 x0 x1 x2 x3 x4 x5 x6 x7 x8 x9 x10 x11 x12 x13 x14 x15 x16 x17 x18 x19 x20 x21 x22) (k0_pay49 x0 x1 x2 x3 x4 x5 x6 x7 x8 x9 x10 x11 x12 x13 x14 x15 x16 x17 x18 x19 x20 x21 x22) (k0_pay50 x0 x1 x2 x3 x4 x5 x6 x7 x8 x9 x10 x11 x12 x13 x14 x15 x16 x17 x18 x19 x20 x21 x22) (k0_pay51 x0 x1 x2 x3 x4 x5 x6 x7 x8 x9 x10 x11 x12 x13 x14 x15 x16 x17 x18 x19 x20 x21 x22) (k0_pay52 x0 x1 x2 x3 x4 x5 x6 x7 x8 x9 x10 x11 x12 x13 x14 x15 x16 x17 x18 x19 x20 x21 x22) (k0_pay47 x0 x1 x2 x3 x4 x5 x6 x7 x8 x9 x10 x11 x12 x13 x14 x15 x16 x17 x18 x19 x20 x21 x22) (View.ld x2 r0_5) (View.ld x2 r0_6) (View.ld x3 r0_7) (View.ld x4 r0_8) (View.ld x5 r0_11) -- `v222`
def k0_pay57 (x0 : Vec F S23x48x128 .f32) (x1 : Vec F S48x240x128 .f32) (x2 : Vec F S5x23x64 .f32) (x3 : Vec F S23x64 .f32) (x4 : Vec F S1x64 .f32) (x5 : Vec F S5x64x64 .f32) (x6 : Vec F S64x64 .f32) (x7 : Vec F S1x64 .f32) (x8 : Vec F S5x64x64 .f32) (x9 : Vec F S64x64 .f32) (x10 : Vec F S1x64 .f32) (x11 : Vec F S64x128 .f32) (x12 : Vec F S1x128 .f32) (x13 : Vec F S128x64 .f32) (x14 : Vec F S1x64 .f32) (x15 : Vec F S64x128 .f32) (x16 : Vec F S1x128 .f32) (x17 : Vec F S128x23 .f32) (x18 : Vec F S1x23 .f32) (x19 : Vec F S128x1 .f32) (x20 : Vec F S64x128 .f32) (x21 : Vec F S1x128 .f32) (x22 : Vec F S5x128x128 .f32) : FVec F S3072x64 .f32 :=
  k0_pay33 (k0_pay48 x0 x1 x2 x3 x4 x5 x6 x7 x8 x9 x10 x11 x12 x13 x14 x15 x16 x17 x18 x19 x20 x21 x22) (k0_pay29 (k0_pay48 x0 x1 x2 x3 x4 x5 x6 x7 x8 x9 x10 x11 x12 x13 x14 x15 x16 x17 x18 x19 x20 x21 x22) (k0_pay53 x0 x1 x2 x3 x4 x5 x6 x7 x8 x9 x10 x11 x12 x13 x14 x15 x16 x17 x18 x19 x20 x21 x22) (k0_pay54 x0 x1 x2 x3 x4 x5 x6 x7 x8 x9 x10 x11 x12 x13 x14 x15 x16 x17 x18 x19 x20 x21 x22) (k0_pay55 x0 x1 x2 x3 x4 x5 x6 x7 x8 x9 x10 x11 x12 x13 x14 x15 x16 x17 x18 x19 x20 x21 x22) (k0_pay56 x0 x1 x2 x3 x4 x5 x6 x7 x8 x9 x10 x11 x12 x13 x14 x15 x16 x17 x18 x19 x20 x21 x22) (View.ld x5 r0_12) (View.ld x5 r0_13) (View.ld x6 r0_14) (View.ld x7 r0_8)) (k0_pay30 (k0_pay48 x0 x1 x2 x3 x4 x5 x6 x7 x8 x9 x10 x11 x12 x13 x14 x15 x16 x17 x18 x19 x20 x21 x22) (k0_pay53 x0 x1 x2 x3 x4 x5 x6 x7 x8 x9 x10 x11 x12 x13 x14 x15 x16 x17 x18 x19 x20 x21 x22) (k0_pay54 x0 x1 x2 x3 x4 x5 x6 x7 x8 x9 x10 x11 x12 x13 x14 x15 x16 x17 x18 x19 x20 x21 x22) (k0_pay55 x0 x1 x2 x3 x4 x5 x6 x7 x8 x9 x10 x11 x12 x13 x14 x15 x16 x17 x18 x19 x20 x21 x22) (k0_pay56 x0 x1 x2 x3 x4 x5 x6 x7 x8 x9 x10 x11 x12 x13 x14 x15 x16 x17 x18 x19 x20 x21 x22) (View.ld x5 r0_12) (View.ld x5 r0_13) (View.ld x6 r0_14) (View.ld x7 r0_8) (View.ld x8 r0_9)) (k0_pay31 (k0_pay48 x0 x1 x2 x3 x4 x5 x6 x7 x8 x9 x10 x11 x12 x13 x14 x15 x16 x17 x18 x19 x20 x21 x22) (k0_pay53 x0 x1 x2 x3 x4 x5 x6 x7 x8 x9 x10 x11 x12 x13 x14 x15 x16 x17 x18 x19 x20 x21 x22) (k0_pay54 x0 x1 x2 x3 x4 x5 x6 x7 x8 x9 x10 x11 x12 x13 x14 x15 x16 x17 x18 x19 x20 x21 x22) (k0_pay55 x0 x1 x2 x3 x4 x5 x6 x7 x8 x9 x10 x11 x12 x13 x14 x15 x16 x17 x18 x19 x20 x21 x22) (k0_pay56 x0 x1 x2 x3 x4 x5 x6 x7 x8 x9 x10 x11 x12 x13 x14 x15 x16 x17 x18 x19 x20 x21 x22) (View.ld x5 r0_12) (View.ld x5 r0_13) (View.ld x6 r0_14) (View.ld x7 r0_8) (View.ld x8 r0_10)) (k0_pay32 (k0_pay48 x0 x1 x2 x3 x4 x5 x6 x7 x8 x9 x10 x11 x12 x13 x14 x15 x16 x17 x18 x19 x20 x21 x22) (k0_pay53 x0 x1 x2 x3 x4 x5 x6 x7 x8 x9 x10 x11 x12 x13 x14 x15 x16 x17 x18 x19 x20 x21 x22) (k0_pay54 x0 x1 x2 x3 x4 x5 x6 x7 x8 x9 x10 x11 x12 x13 x14 x15 x16 x17 x18 x19 x20 x21 x22) (k0_pay55 x0 x1 x2 x3 x4 x5 x6 x7 x8 x9 x10 x11 x12 x13 x14 x15 x16 x17 x18 x19 x20 x21 x22) (k0_pay56 x0 x1 x2 x3 x4 x5 x6 x7 x8 x9 x10 x11 x12 x13 x14 x15 x16 x17 x18 x19 x20 x21 x22) (View.ld x5 r0_12) (View.ld x5 r0_13) (View.ld x6 r0_14) (View.ld x7 r0_8) (View.ld x8 r0_11)) (View.ld x8 r0_12) (View.ld x8 r0_13) (View.ld x9 r0_14) (View.ld x10 r0_8) (View.ld x11 r0_15) (View.ld x12 r0_16) (View.ld x13 r0_17) (View.ld x14 r0_8) -- `v289`

/-- Window 23's staging buffer after the body, from the input windows' blocks: its 2 stores as pieces, LAST
    FIRST (Lib/Pipeline/FrameBody.lean `View.canon`; the payloads are the skeleton's and the values stated above). -/
def out0_23 (x0 : Vec F S23x48x128 .f32) (x1 : Vec F S48x240x128 .f32) (x2 : Vec F S5x23x64 .f32) (x3 : Vec F S23x64 .f32) (x4 : Vec F S1x64 .f32) (x5 : Vec F S5x64x64 .f32) (x6 : Vec F S64x64 .f32) (x7 : Vec F S1x64 .f32) (x8 : Vec F S5x64x64 .f32) (x9 : Vec F S64x64 .f32) (x10 : Vec F S1x64 .f32) (x11 : Vec F S64x128 .f32) (x12 : Vec F S1x128 .f32) (x13 : Vec F S128x64 .f32) (x14 : Vec F S1x64 .f32) (x15 : Vec F S64x128 .f32) (x16 : Vec F S1x128 .f32) (x17 : Vec F S128x23 .f32) (x18 : Vec F S1x23 .f32) (x19 : Vec F S128x1 .f32) (x20 : Vec F S64x128 .f32) (x21 : Vec F S1x128 .f32) (x22 : Vec F S5x128x128 .f32) : Vec F S23x48x128 .f32 :=
  View.canon [⟨r0_28, k0_pay35 (k0_pay57 x0 x1 x2 x3 x4 x5 x6 x7 x8 x9 x10 x11 x12 x13 x14 x15 x16 x17 x18 x19 x20 x21 x22) (View.ld x15 r0_15) (View.ld x16 r0_16) (View.ld x17 r0_18) (View.ld x18 r0_19)⟩,
    ⟨r0_1, k0_pay13 (k0_pay11 (k0_pay44 x0 x1 x2 x3 x4 x5 x6 x7 x8 x9 x10 x11 x12 x13 x14 x15 x16 x17 x18 x19 x20 x21 x22) (k0_pay45 x0 x1 x2 x3 x4 x5 x6 x7 x8 x9 x10 x11 x12 x13 x14 x15 x16 x17 x18 x19 x20 x21 x22) (View.ld x9 r0_14) (k0_pay43 x0 x1 x2 x3 x4 x5 x6 x7 x8 x9 x10 x11 x12 x13 x14 x15 x16 x17 x18 x19 x20 x21 x22) (View.ld x10 r0_8) (View.ld x11 r0_15) (View.ld x12 r0_16) (View.ld x13 r0_17) (View.ld x14 r0_8) (View.ld x15 r0_15) (View.ld x16 r0_16) (View.ld x17 r0_18)) (k0_pay12 (View.ld x18 r0_19))⟩]

/-- Its stores tile the buffer (checked by evaluation), so they cover it. -/
theorem cover0_23 (p0 : Vec F S23x48x64 .f32) (p1 : Vec F S23x48x64 .f32) (y : S23x48x128.Idx) :
    ∃ pc ∈ ([⟨r0_28, p0⟩, ⟨r0_1, p1⟩] : List (View.Piece (Elt F) S23x48x128 .f32)), y ∈ pc.1.set :=
  View.cover_of_tiled [⟨r0_28, p0⟩, ⟨r0_1, p1⟩] S23x48x64.size (by rfl) y

/-- Window 24's staging buffer after the body, from the input windows' blocks: its 2 stores as pieces, LAST
    FIRST (Lib/Pipeline/FrameBody.lean `View.canon`; the payloads are the skeleton's and the values stated above). -/
def out0_24 (x0 : Vec F S23x48x128 .f32) (x1 : Vec F S48x240x128 .f32) (x2 : Vec F S5x23x64 .f32) (x3 : Vec F S23x64 .f32) (x4 : Vec F S1x64 .f32) (x5 : Vec F S5x64x64 .f32) (x6 : Vec F S64x64 .f32) (x7 : Vec F S1x64 .f32) (x8 : Vec F S5x64x64 .f32) (x9 : Vec F S64x64 .f32) (x10 : Vec F S1x64 .f32) (x11 : Vec F S64x128 .f32) (x12 : Vec F S1x128 .f32) (x13 : Vec F S128x64 .f32) (x14 : Vec F S1x64 .f32) (x15 : Vec F S64x128 .f32) (x16 : Vec F S1x128 .f32) (x17 : Vec F S128x23 .f32) (x18 : Vec F S1x23 .f32) (x19 : Vec F S128x1 .f32) (x20 : Vec F S64x128 .f32) (x21 : Vec F S1x128 .f32) (x22 : Vec F S5x128x128 .f32) : Vec F S48x240x128 .f32 :=
  View.canon [⟨r0_27, k0_pay1 (k0_pay37 (k0_pay57 x0 x1 x2 x3 x4 x5 x6 x7 x8 x9 x10 x11 x12 x13 x14 x15 x16 x17 x18 x19 x20 x21 x22) (View.ld x20 r0_15) (View.ld x21 r0_16)) (View.ld x22 r0_22) (View.ld x22 r0_23) (View.ld x22 r0_24) (View.ld x22 r0_25) (View.ld x22 r0_26)⟩,
    ⟨r0_0, k0_pay19 (k0_pay15 (k0_pay46 x0 x1 x2 x3 x4 x5 x6 x7 x8 x9 x10 x11 x12 x13 x14 x15 x16 x17 x18 x19 x20 x21 x22) (View.ld x20 r0_15) (View.ld x21 r0_16)) (k0_pay16 (k0_pay46 x0 x1 x2 x3 x4 x5 x6 x7 x8 x9 x10 x11 x12 x13 x14 x15 x16 x17 x18 x19 x20 x21 x22) (View.ld x20 r0_15) (View.ld x21 r0_16) (View.ld x22 r0_22)) (k0_pay17 (k0_pay46 x0 x1 x2 x3 x4 x5 x6 x7 x8 x9 x10 x11 x12 x13 x14 x15 x16 x17 x18 x19 x20 x21 x22) (View.ld x20 r0_15) (View.ld x21 r0_16) (View.ld x22 r0_23)) (k0_pay18 (k0_pay46 x0 x1 x2 x3 x4 x5 x6 x7 x8 x9 x10 x11 x12 x13 x14 x15 x16 x17 x18 x19 x20 x21 x22) (View.ld x20 r0_15) (View.ld x21 r0_16) (View.ld x22 r0_24)) (View.ld x22 r0_25) (View.ld x22 r0_26)⟩]

/-- Its stores tile the buffer (checked by evaluation), so they cover it. -/
theorem cover0_24 (p0 : Vec F S48x240x64 .f32) (p1 : Vec F S48x240x64 .f32) (y : S48x240x128.Idx) :
    ∃ pc ∈ ([⟨r0_27, p0⟩, ⟨r0_0, p1⟩] : List (View.Piece (Elt F) S48x240x128 .f32)), y ∈ pc.1.set :=
  View.cover_of_tiled [⟨r0_27, p0⟩, ⟨r0_0, p1⟩] S48x240x64.size (by rfl) y

/-- Window 25's staging buffer after the body, from the input windows' blocks: its 2 stores as pieces, LAST
    FIRST (Lib/Pipeline/FrameBody.lean `View.canon`; the payloads are the skeleton's and the values stated above). -/
def out0_25 (x0 : Vec F S23x48x128 .f32) (x1 : Vec F S48x240x128 .f32) (x2 : Vec F S5x23x64 .f32) (x3 : Vec F S23x64 .f32) (x4 : Vec F S1x64 .f32) (x5 : Vec F S5x64x64 .f32) (x6 : Vec F S64x64 .f32) (x7 : Vec F S1x64 .f32) (x8 : Vec F S5x64x64 .f32) (x9 : Vec F S64x64 .f32) (x10 : Vec F S1x64 .f32) (x11 : Vec F S64x128 .f32) (x12 : Vec F S1x128 .f32) (x13 : Vec F S128x64 .f32) (x14 : Vec F S1x64 .f32) (x15 : Vec F S64x128 .f32) (x16 : Vec F S1x128 .f32) (x17 : Vec F S128x23 .f32) (x18 : Vec F S1x23 .f32) (x19 : Vec F S128x1 .f32) (x20 : Vec F S64x128 .f32) (x21 : Vec F S1x128 .f32) (x22 : Vec F S5x128x128 .f32) : Vec F S128x48x1 .f32 :=
  View.canon [⟨r0_29, k0_pay36 (k0_pay57 x0 x1 x2 x3 x4 x5 x6 x7 x8 x9 x10 x11 x12 x13 x14 x15 x16 x17 x18 x19 x20 x21 x22) (View.ld x15 r0_15) (View.ld x16 r0_16) (View.ld x19 r0_20)⟩,
    ⟨r0_21, k0_pay14 (k0_pay10 (k0_pay44 x0 x1 x2 x3 x4 x5 x6 x7 x8 x9 x10 x11 x12 x13 x14 x15 x16 x17 x18 x19 x20 x21 x22) (k0_pay45 x0 x1 x2 x3 x4 x5 x6 x7 x8 x9 x10 x11 x12 x13 x14 x15 x16 x17 x18 x19 x20 x21 x22) (View.ld x9 r0_14) (k0_pay43 x0 x1 x2 x3 x4 x5 x6 x7 x8 x9 x10 x11 x12 x13 x14 x15 x16 x17 x18 x19 x20 x21 x22) (View.ld x10 r0_8) (View.ld x11 r0_15) (View.ld x12 r0_16) (View.ld x13 r0_17) (View.ld x14 r0_8) (View.ld x15 r0_15) (View.ld x16 r0_16)) (View.ld x19 r0_20)⟩]

/-- Its stores tile the buffer (checked by evaluation), so they cover it. -/
theorem cover0_25 (p0 : Vec F S64x48x1 .f32) (p1 : Vec F S64x48x1 .f32) (y : S128x48x1.Idx) :
    ∃ pc ∈ ([⟨r0_29, p0⟩, ⟨r0_21, p1⟩] : List (View.Piece (Elt F) S128x48x1 .f32)), y ∈ pc.1.set :=
  View.cover_of_tiled [⟨r0_29, p0⟩, ⟨r0_21, p1⟩] S64x48x1.size (by rfl) y

/-! ## The body's triple -/

set_option maxHeartbeats 1357950 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S23x48x128 .f32) (harg1 : arg1.IsWhole) (arg2 : Memref sig .tc .vmem S48x240x128 .f32) (harg2 : arg2.IsWhole) (arg3 : Memref sig .tc .vmem S5x23x64 .f32) (harg3 : arg3.IsWhole) (arg4 : Memref sig .tc .vmem S23x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S5x64x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S64x128 .f32) (harg12 : arg12.IsWhole) (arg13 : Memref sig .tc .vmem S1x128 .f32) (harg13 : arg13.IsWhole) (arg14 : Memref sig .tc .vmem S128x64 .f32) (harg14 : arg14.IsWhole) (arg15 : Memref sig .tc .vmem S1x64 .f32) (harg15 : arg15.IsWhole) (arg16 : Memref sig .tc .vmem S64x128 .f32) (harg16 : arg16.IsWhole) (arg17 : Memref sig .tc .vmem S1x128 .f32) (harg17 : arg17.IsWhole) (arg18 : Memref sig .tc .vmem S128x23 .f32) (harg18 : arg18.IsWhole) (arg19 : Memref sig .tc .vmem S1x23 .f32) (harg19 : arg19.IsWhole) (arg20 : Memref sig .tc .vmem S128x1 .f32) (harg20 : arg20.IsWhole) (arg21 : Memref sig .tc .vmem S64x128 .f32) (harg21 : arg21.IsWhole) (arg22 : Memref sig .tc .vmem S1x128 .f32) (harg22 : arg22.IsWhole) (arg23 : Memref sig .tc .vmem S5x128x128 .f32) (harg23 : arg23.IsWhole) (arg24 : Memref sig .tc .vmem S23x48x128 .f32) (harg24 : arg24.IsWhole) (arg25 : Memref sig .tc .vmem S48x240x128 .f32) (harg25 : arg25.IsWhole) (arg26 : Memref sig .tc .vmem S128x48x1 .f32) (harg26 : arg26.IsWhole)
    (x0 : Vec F S23x48x128 .f32) (x1 : Vec F S48x240x128 .f32) (x2 : Vec F S5x23x64 .f32) (x3 : Vec F S23x64 .f32) (x4 : Vec F S1x64 .f32) (x5 : Vec F S5x64x64 .f32) (x6 : Vec F S64x64 .f32) (x7 : Vec F S1x64 .f32) (x8 : Vec F S5x64x64 .f32) (x9 : Vec F S64x64 .f32) (x10 : Vec F S1x64 .f32) (x11 : Vec F S64x128 .f32) (x12 : Vec F S1x128 .f32) (x13 : Vec F S128x64 .f32) (x14 : Vec F S1x64 .f32) (x15 : Vec F S64x128 .f32) (x16 : Vec F S1x128 .f32) (x17 : Vec F S128x23 .f32) (x18 : Vec F S1x23 .f32) (x19 : Vec F S128x1 .f32) (x20 : Vec F S64x128 .f32) (x21 : Vec F S1x128 .f32) (x22 : Vec F S5x128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare (out0_23 x0 x1 x2 x3 x4 x5 x6 x7 x8 x9 x10 x11 x12 x13 x14 x15 x16 x17 x18 x19 x20 x21 x22) ∗ owns (c : Thread nD τ) arg25 fullShare (out0_24 x0 x1 x2 x3 x4 x5 x6 x7 x8 x9 x10 x11 x12 x13 x14 x15 x16 x17 x18 x19 x20 x21 x22) ∗ owns (c : Thread nD τ) arg26 fullShare (out0_25 x0 x1 x2 x3 x4 x5 x6 x7 x8 x9 x10 x11 x12 x13 x14 x15 x16 x17 x18 x19 x20 x21 x22)) -∗ K ⟨⟩))
      ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__fused_eq_skeleton]; unfold cc0__fused_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%d25, %f25, -, H25⟩, Hk⟩
  subst hf0 hf1 hf2 hf3 hf4 hf5 hf6 hf7 hf8 hf9 hf10 hf11 hf12 hf13 hf14 hf15 hf16 hf17 hf18 hf19 hf20 hf21 hf22
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists _; isplitr
    swap; · iexact H23
    ipureintro
    refine (View.read_writes_eq_canon _ _ _ (cover0_23 _ _)).trans ?_
    rfl
  isplitl [H24]
  · iexists _; isplitr
    swap; · iexact H24
    ipureintro
    refine (View.read_writes_eq_canon _ _ _ (cover0_24 _ _)).trans ?_
    rfl
  iexists _; isplitr
  swap; · iexact H25
  ipureintro
  refine (View.read_writes_eq_canon _ _ _ (cover0_25 _ _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨_ + 26, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [H24]; · iexists _; iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 1600000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

/-- The frame: the program ends, its argument arrays are unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  θ_run_and (unchanged m ρ) ((θ_run defs _ _).mono (fun _ h => h.2) (run_main_quiescent m ρ))

end Cert.KernelIdeal.Body

end
-- ==== Proof.Model.lean ====
/- The graph network of one graph as plain functions on extended reals, in the two orders in which the kernel and the
   reference compute it, and the equality of the two at real numbers. Nothing here names a program. -/
module

public import Mathlib.Data.EReal.Operations
public import Mathlib.Algebra.BigOperators.Ring.Finset
public import Mathlib.Algebra.BigOperators.Fin
public import Mathlib.Data.Real.Basic
public import Mathlib.Tactic.Ring
public import Mathlib.Tactic.NormNum

@[expose] public section

noncomputable section

namespace Cert.Model

/-! ## The operations -/

section
variable {n d e : ℕ}

/-- The product of two matrices. -/
def mul (H : Fin n → Fin d → EReal) (W : Fin d → Fin e → EReal) : Fin n → Fin e → EReal := fun i k => ∑ c, H i c * W c k

/-- A matrix product plus a bias in every row. -/
def dense (H : Fin n → Fin d → EReal) (W : Fin d → Fin e → EReal) (b : Fin e → EReal) : Fin n → Fin e → EReal :=
  fun i k => mul H W i k + b k

/-- The positive part, entry by entry. -/
def relu (H : Fin n → Fin e → EReal) : Fin n → Fin e → EReal := fun i k => max (H i k) 0

/-- The messages as the reference sums them: the features of a node's neighbours are gathered per edge feature `f`, and
    the gathered features are multiplied by the message weights. -/
def msgRef {g : ℕ} (A : Fin g → Fin n → Fin n → EReal) (H : Fin n → Fin d → EReal) (W : Fin g → Fin d → Fin e → EReal) :
    Fin n → Fin e → EReal := fun i k => ∑ f, ∑ c, (∑ j, A f i j * H j c) * W f c k

/-- The messages as the kernel sums them: the features are multiplied by the message weights first and the products are
    gathered from the neighbours. -/
def msgKer {g : ℕ} (A : Fin g → Fin n → Fin n → EReal) (H : Fin n → Fin d → EReal) (W : Fin g → Fin d → Fin e → EReal) :
    Fin n → Fin e → EReal := fun i k => ∑ f, ∑ j, A f i j * ∑ c, H j c * W f c k

/-- One layer of the network from its messages `M`. -/
def layer (M : Fin n → Fin e → EReal) (H : Fin n → Fin d → EReal) (W : Fin d → Fin e → EReal) (b : Fin e → EReal) :
    Fin n → Fin e → EReal := relu fun i k => M i k + mul H W i k + b k

/-- An edge's logit as the reference forms it: the bilinear form of the two ends' features, averaged with the one of
    the ends exchanged; `half` is the factor of the average. -/
def edgeRef {g : ℕ} (half : EReal) (Q : Fin n → Fin e → EReal) (W : Fin g → Fin e → Fin e → EReal)
    (i j : Fin n) (f : Fin g) : EReal :=
  half * ((∑ k, (∑ h, Q i h * W f h k) * Q j k) + ∑ k, (∑ h, Q j h * W f h k) * Q i k)

/-- An edge's logit as the kernel forms it: the bilinear form of weights `S` that were made symmetric before. -/
def edgeKer {g : ℕ} (Q : Fin n → Fin e → EReal) (S : Fin g → Fin e → Fin e → EReal) (i j : Fin n) (f : Fin g) : EReal :=
  ∑ k, Q i k * ∑ h, Q j h * S f h k

/-- Weights averaged with their transpose. -/
def symm {g : ℕ} (half : EReal) (W : Fin g → Fin e → Fin e → EReal) (f : Fin g) (h k : Fin e) : EReal :=
  half * (W f h k + W f k h)

end

/-! ## The network -/

/-- The weights and biases of the network. -/
structure Params where
  m1 : Fin 5 → Fin 23 → Fin 64 → EReal
  s1 : Fin 23 → Fin 64 → EReal
  b1 : Fin 64 → EReal
  m2 : Fin 5 → Fin 64 → Fin 64 → EReal
  s2 : Fin 64 → Fin 64 → EReal
  b2 : Fin 64 → EReal
  m3 : Fin 5 → Fin 64 → Fin 64 → EReal
  s3 : Fin 64 → Fin 64 → EReal
  b3 : Fin 64 → EReal
  f1 : Fin 64 → Fin 128 → EReal
  c1 : Fin 128 → EReal
  f2 : Fin 128 → Fin 64 → EReal
  c2 : Fin 64 → EReal
  n1 : Fin 64 → Fin 128 → EReal
  d1 : Fin 128 → EReal
  n2 : Fin 128 → Fin 24 → EReal
  d2 : Fin 24 → EReal
  e1 : Fin 64 → Fin 128 → EReal
  g1 : Fin 128 → EReal
  wb : Fin 5 → Fin 128 → Fin 128 → EReal

section
variable (P : Params) (A : Fin 5 → Fin 48 → Fin 48 → EReal) (X : Fin 48 → Fin 23 → EReal)

/-- The node embedding from the features after the third layer. -/
def head (H : Fin 48 → Fin 64 → EReal) : Fin 48 → Fin 64 → EReal := dense (relu (dense H P.f1 P.c1)) P.f2 P.c2
/-- The first layer's features, messages summed as in the reference. -/
def h1Ref : Fin 48 → Fin 64 → EReal := layer (msgRef A X P.m1) X P.s1 P.b1
/-- The second layer's. -/
def h2Ref : Fin 48 → Fin 64 → EReal := layer (msgRef A (h1Ref P A X) P.m2) (h1Ref P A X) P.s2 P.b2
/-- The third layer's. -/
def h3Ref : Fin 48 → Fin 64 → EReal := layer (msgRef A (h2Ref P A X) P.m3) (h2Ref P A X) P.s3 P.b3
/-- The node embedding, messages summed as in the reference. -/
def embRef : Fin 48 → Fin 64 → EReal := head P (h3Ref P A X)
/-- The first layer's features, messages summed as in the kernel. -/
def h1Ker : Fin 48 → Fin 64 → EReal := layer (msgKer A X P.m1) X P.s1 P.b1
/-- The second layer's. -/
def h2Ker : Fin 48 → Fin 64 → EReal := layer (msgKer A (h1Ker P A X) P.m2) (h1Ker P A X) P.s2 P.b2
/-- The third layer's. -/
def h3Ker : Fin 48 → Fin 64 → EReal := layer (msgKer A (h2Ker P A X) P.m3) (h2Ker P A X) P.s3 P.b3
/-- The node embedding, messages summed as in the kernel. -/
def embKer : Fin 48 → Fin 64 → EReal := head P (h3Ker P A X)
/-- The node output before it is cut into the mask (column 0) and the node logits (the other columns). -/
def nodes (E : Fin 48 → Fin 64 → EReal) : Fin 48 → Fin 24 → EReal := dense (relu (dense E P.n1 P.d1)) P.n2 P.d2
/-- The features that the edge logits are formed from. -/
def pair (E : Fin 48 → Fin 64 → EReal) : Fin 48 → Fin 128 → EReal := relu (dense E P.e1 P.g1)

end

/-! ## Real entries -/

section
variable {n d e g : ℕ}

/-- Every entry of a vector is a real number. -/
def Real1 (b : Fin n → EReal) : Prop := ∃ r : Fin n → ℝ, b = fun i => ((r i : ℝ) : EReal)
/-- Every entry of a matrix is a real number. -/
def Real2 (H : Fin n → Fin d → EReal) : Prop := ∃ r : Fin n → Fin d → ℝ, H = fun i k => ((r i k : ℝ) : EReal)
/-- Every entry of a three-dimensional array is a real number. -/
def Real3 (A : Fin g → Fin n → Fin d → EReal) : Prop := ∃ r : Fin g → Fin n → Fin d → ℝ, A = fun f i k => ((r f i k : ℝ) : EReal)

/-- A finite sum of real numbers is a real number: the sum of the embedded terms is the embedded sum. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The embedding of the reals respects the positive part. -/
theorem coe_max_zero (x : ℝ) : ((max x 0 : ℝ) : EReal) = max (x : EReal) 0 := by
  rw [EReal.coe_strictMono.monotone.map_max, EReal.coe_zero]

/-- A product of real matrices is real. -/
theorem real_mul {H : Fin n → Fin d → EReal} {W : Fin d → Fin e → EReal} (hH : Real2 H) (hW : Real2 W) : Real2 (mul H W) := by
  obtain ⟨h, rfl⟩ := hH
  obtain ⟨w, rfl⟩ := hW
  exact ⟨fun i k => ∑ c, h i c * w c k, by funext i k; simp only [mul, coe_sum, EReal.coe_mul]⟩

/-- A dense layer of real entries is real. -/
theorem real_dense {H : Fin n → Fin d → EReal} {W : Fin d → Fin e → EReal} {b : Fin e → EReal} (hH : Real2 H) (hW : Real2 W)
    (hb : Real1 b) : Real2 (dense H W b) := by
  obtain ⟨p, hp⟩ := real_mul hH hW
  obtain ⟨r, rfl⟩ := hb
  exact ⟨fun i k => p i k + r k, by funext i k; simp only [dense, hp, EReal.coe_add]⟩

/-- The positive part of a real matrix is real. -/
theorem real_relu {H : Fin n → Fin e → EReal} (hH : Real2 H) : Real2 (relu H) := by
  obtain ⟨h, rfl⟩ := hH
  exact ⟨fun i k => max (h i k) 0, by funext i k; simp only [relu, coe_max_zero]⟩

/-- With real entries the kernel's order of summation gives the reference's messages. -/
theorem msgKer_eq {A : Fin g → Fin n → Fin n → EReal} {H : Fin n → Fin d → EReal} {W : Fin g → Fin d → Fin e → EReal}
    (hA : Real3 A) (hH : Real2 H) (hW : Real3 W) : msgKer A H W = msgRef A H W := by
  obtain ⟨a, rfl⟩ := hA
  obtain ⟨h, rfl⟩ := hH
  obtain ⟨w, rfl⟩ := hW
  funext i k
  simp only [msgKer, msgRef, ← EReal.coe_mul, ← coe_sum, EReal.coe_eq_coe_iff]
  refine Finset.sum_congr rfl fun f _ => ?_
  simp only [Finset.mul_sum, Finset.sum_mul]
  rw [Finset.sum_comm]
  exact Finset.sum_congr rfl fun c _ => Finset.sum_congr rfl fun j _ => by ring

/-- The messages are real where the adjacency, the features and the weights are. -/
theorem real_msg {A : Fin g → Fin n → Fin n → EReal} {H : Fin n → Fin d → EReal} {W : Fin g → Fin d → Fin e → EReal}
    (hA : Real3 A) (hH : Real2 H) (hW : Real3 W) : Real2 (msgRef A H W) := by
  obtain ⟨a, rfl⟩ := hA
  obtain ⟨h, rfl⟩ := hH
  obtain ⟨w, rfl⟩ := hW
  exact ⟨fun i k => ∑ f, ∑ c, (∑ j, a f i j * h j c) * w f c k, by
    funext i k; simp only [msgRef, coe_sum, EReal.coe_mul]⟩

/-- A layer's features are real where its messages, its input and its weights are. -/
theorem real_layer {M : Fin n → Fin e → EReal} {H : Fin n → Fin d → EReal} {W : Fin d → Fin e → EReal} {b : Fin e → EReal}
    (hM : Real2 M) (hH : Real2 H) (hW : Real2 W) (hb : Real1 b) : Real2 (layer M H W b) := by
  obtain ⟨p, hp⟩ := real_mul hH hW
  obtain ⟨m, rfl⟩ := hM
  obtain ⟨r, rfl⟩ := hb
  exact real_relu ⟨fun i k => m i k + p i k + r k, by funext i k; simp only [hp, EReal.coe_add]⟩

/-- With real entries the bilinear form of the symmetrised weights is the average of the two bilinear forms. -/
theorem edgeKer_eq {half : ℝ} {Q : Fin n → Fin e → EReal} {W : Fin g → Fin e → Fin e → EReal} (hQ : Real2 Q) (hW : Real3 W)
    (i j : Fin n) (f : Fin g) : edgeKer Q (symm half W) i j f = edgeRef half Q W i j f := by
  obtain ⟨q, rfl⟩ := hQ
  obtain ⟨w, rfl⟩ := hW
  simp only [edgeKer, edgeRef, symm, ← EReal.coe_mul, ← EReal.coe_add, ← coe_sum, EReal.coe_eq_coe_iff]
  have h1 : ∑ k, (∑ h, q i h * w f h k) * q j k = ∑ k, ∑ h, q i k * q j h * w f k h := by
    simp only [Finset.sum_mul]
    rw [Finset.sum_comm]
    exact Finset.sum_congr rfl fun k _ => Finset.sum_congr rfl fun h _ => by ring
  have h2 : ∑ k, (∑ h, q j h * w f h k) * q i k = ∑ k, ∑ h, q i k * q j h * w f h k := by
    simp only [Finset.sum_mul]
    exact Finset.sum_congr rfl fun k _ => Finset.sum_congr rfl fun h _ => by ring
  rw [h1, h2, ← Finset.sum_add_distrib, Finset.mul_sum]
  refine Finset.sum_congr rfl fun k _ => ?_
  rw [← Finset.sum_add_distrib, Finset.mul_sum, Finset.mul_sum]
  exact Finset.sum_congr rfl fun h _ => by ring

end

/-! ## The two networks agree -/

/-- The weights and biases that the node embedding and the edge logits are computed from are real numbers. Those of the
    node head (`n1`, `d1`, `n2`, `d2`) may be anything. -/
structure Params.IsReal (P : Params) : Prop where
  m1 : Real3 P.m1
  s1 : Real2 P.s1
  b1 : Real1 P.b1
  m2 : Real3 P.m2
  s2 : Real2 P.s2
  b2 : Real1 P.b2
  m3 : Real3 P.m3
  s3 : Real2 P.s3
  b3 : Real1 P.b3
  f1 : Real2 P.f1
  c1 : Real1 P.c1
  f2 : Real2 P.f2
  c2 : Real1 P.c2
  e1 : Real2 P.e1
  g1 : Real1 P.g1
  wb : Real3 P.wb

section
variable {P : Params} {A : Fin 5 → Fin 48 → Fin 48 → EReal} {X : Fin 48 → Fin 23 → EReal}
  (hP : P.IsReal) (hA : Real3 A) (hX : Real2 X)
include hP hA hX

/-- The first layer's features are real. -/
theorem real_h1 : Real2 (h1Ref P A X) := real_layer (real_msg hA hX hP.m1) hX hP.s1 hP.b1
/-- The second layer's features are real. -/
theorem real_h2 : Real2 (h2Ref P A X) :=
  real_layer (real_msg hA (real_h1 hP hA hX) hP.m2) (real_h1 hP hA hX) hP.s2 hP.b2
/-- The third layer's features are real. -/
theorem real_h3 : Real2 (h3Ref P A X) :=
  real_layer (real_msg hA (real_h2 hP hA hX) hP.m3) (real_h2 hP hA hX) hP.s3 hP.b3

/-- The node embedding is real. -/
theorem real_emb : Real2 (embRef P A X) :=
  real_dense (real_relu (real_dense (real_h3 hP hA hX) hP.f1 hP.c1)) hP.f2 hP.c2

/-- The features of the edge logits are real. -/
theorem real_pair : Real2 (pair P (embRef P A X)) := real_relu (real_dense (real_emb hP hA hX) hP.e1 hP.g1)

/-- The kernel's node embedding is the reference's. -/
theorem embKer_eq : embKer P A X = embRef P A X := by
  have h1 : h1Ker P A X = h1Ref P A X := by rw [h1Ker, h1Ref, msgKer_eq hA hX hP.m1]
  have h2 : h2Ker P A X = h2Ref P A X := by rw [h2Ker, h2Ref, h1, msgKer_eq hA (real_h1 hP hA hX) hP.m2]
  have h3 : h3Ker P A X = h3Ref P A X := by rw [h3Ker, h3Ref, h2, msgKer_eq hA (real_h2 hP hA hX) hP.m3]
  rw [embKer, embRef, h3]

/-- The kernel's edge logits are the reference's. -/
theorem edge_eq {half : ℝ} (i j : Fin 48) (f : Fin 5) :
    edgeKer (pair P (embKer P A X)) (symm half P.wb) i j f = edgeRef half (pair P (embRef P A X)) P.wb i j f := by
  rw [embKer_eq hP hA hX]
  exact edgeKer_eq (real_pair hP hA hX) hP.wb i j f

end

end Cert.Model

end
-- ==== Proof.Chunk.lean ====
/- What the kernel's body computes for the sixty-four graphs of one chunk, read entry by entry: every payload of the
   first chunk at an index, as an operation of `Model` of the rows of one graph. The rows of graph `l` of the chunk are
   the rows `48 * l + i` of the flattened arrays. -/
module

public import proofs.«01_k».proof.Proof.Gen.KernelIdeal.Skeleton
public import proofs.«01_k».proof.Proof.Model
public import Idealize.ShloMosaic.Lib.Pointwise

@[expose] public section

set_option maxRecDepth 16384

noncomputable section

namespace Cert.KernelIdeal.Chunk

open Idealize.ShloMosaic Idealize.ShloMosaic.TcCoe Idealize.SL.Sem
open Cert.KernelIdeal Cert.KernelIdeal.Gen Cert.Model

/-- Row `i` of graph `l` in a flattened array. -/
def row (l : Fin 64) (i : Fin 48) : Fin 3072 := ⟨l.val * 48 + i.val, by omega⟩
/-- Column `j` of edge feature `f` among the stacked columns. -/
def col (f : Fin 5) (j : Fin 48) : Fin 240 := ⟨f.val * 48 + j.val, by omega⟩

@[simp] theorem row_val (l : Fin 64) (i : Fin 48) : (row l i).val = l.val * 48 + i.val := rfl
@[simp] theorem col_val (f : Fin 5) (j : Fin 48) : (col f j).val = f.val * 48 + j.val := rfl

/-- A sum over the stacked columns is the sum over the edge features of the sums over the nodes. -/
theorem sum_col (F : Fin 240 → EReal) : ∑ q, F q = ∑ f, ∑ j, F (col f j) := Fin.sum_univ_tiles 5 48 rfl F

/-! ## The steps of a chunk -/

section
variable {F : FTy → Type} [FloatOps F]

/-- The features of 23 columns times each of the five message weights, stacked. -/
def stack23 (h : FVec F S3072x23 .f32) (w : Fin 5 → FVec F S1x23x64 .f32) : FVec F S64x240x64 .f32 :=
  let p (f : Fin 5) : FVec F S64x48x64 .f32 :=
    shapeCast S64x48x64 (matmul dot_S3072x23_S23x64_S3072x64_1_0_0_1_n_n none h
      (shapeCast S23x64 (w f) shapeCasts_S1x23x64_S23x64) (constant S3072x64 .f32 0x00000000#32)) shapeCasts_S3072x64_S64x48x64
  concatenate S64x240x64 1 [⟨S64x48x64, p 0⟩, ⟨S64x48x64, p 1⟩, ⟨S64x48x64, p 2⟩, ⟨S64x48x64, p 3⟩, ⟨S64x48x64, p 4⟩]
    concatenates_S64x48x64_S64x48x64_S64x48x64_S64x48x64_S64x48x64_S64x240x64_d1

/-- The features of 64 columns times each of the five message weights, stacked. -/
def stack64 (h : FVec F S3072x64 .f32) (w : Fin 5 → FVec F S1x64x64 .f32) : FVec F S64x240x64 .f32 :=
  let p (f : Fin 5) : FVec F S64x48x64 .f32 :=
    shapeCast S64x48x64 (matmul dot_S3072x64_S64x64_S3072x64_1_0_0_1_n_n none h
      (shapeCast S64x64 (w f) shapeCasts_S1x64x64_S64x64) (constant S3072x64 .f32 0x00000000#32)) shapeCasts_S3072x64_S64x48x64
  concatenate S64x240x64 1 [⟨S64x48x64, p 0⟩, ⟨S64x48x64, p 1⟩, ⟨S64x48x64, p 2⟩, ⟨S64x48x64, p 3⟩, ⟨S64x48x64, p 4⟩]
    concatenates_S64x48x64_S64x48x64_S64x48x64_S64x48x64_S64x48x64_S64x240x64_d1

/-- The edge features times each of the five bilinear weights, stacked. -/
def stack128 (h : FVec F S3072x128 .f32) (w : Fin 5 → FVec F S1x128x128 .f32) : FVec F S64x240x128 .f32 :=
  let p (f : Fin 5) : FVec F S64x48x128 .f32 :=
    shapeCast S64x48x128 (matmul dot_S3072x128_S128x128_S3072x128_1_0_0_1_n_n none h
      (shapeCast S128x128 (w f) shapeCasts_S1x128x128_S128x128) (constant S3072x128 .f32 0x00000000#32)) shapeCasts_S3072x128_S64x48x128
  concatenate S64x240x128 1 [⟨S64x48x128, p 0⟩, ⟨S64x48x128, p 1⟩, ⟨S64x48x128, p 2⟩, ⟨S64x48x128, p 3⟩, ⟨S64x48x128, p 4⟩]
    concatenates_S64x48x128_S64x48x128_S64x48x128_S64x48x128_S64x48x128_S64x240x128_d1

/-- The messages: the stacked products gathered by the rows of the adjacency. -/
def gather (a : FVec F S64x48x240 .f32) (t : FVec F S64x240x64 .f32) : FVec F S3072x64 .f32 :=
  shapeCast S3072x64 (matmul dot_S64x48x240_S64x240x64_S64x48x64_2_1_1_2_0_0 none a t (constant S64x48x64 .f32 0x00000000#32))
    shapeCasts_S64x48x64_S3072x64

/-- The edge logits as the kernel stores them, from the edge features and the stacked products. -/
def logits (p : FVec F S3072x128 .f32) (t : FVec F S64x240x128 .f32) : FVec F S48x240x64 .f32 :=
  transpose S48x240x64 [1, 2, 0] (matmul dot_S64x48x128_S64x240x128_S64x48x240_2_2_1_1_0_0 none
    (shapeCast S64x48x128 p shapeCasts_S3072x128_S64x48x128) t (constant S64x48x240 .f32 0x00000000#32)) transposes_S64x48x240_p1_2_0_S48x240x64

/-- A dense step from 128 to 64 columns. -/
def dense64 (h : FVec F S3072x128 .f32) (w : FVec F S128x64 .f32) (b : FVec F S1x64 .f32) : FVec F S3072x64 .f32 :=
  addf (matmul dot_S3072x128_S128x64_S3072x64_1_0_0_1_n_n none h w (constant S3072x64 .f32 0x00000000#32))
    (broadcastTo S3072x64 (shapeCast S1x64 b shapeCasts_S1x64_S1x64) broadcasts_S1x64_S3072x64)

/-- The first layer of the network on a chunk. -/
def layer23 (a : FVec F S64x48x240 .f32) (h : FVec F S3072x23 .f32) (m : Fin 5 → FVec F S1x23x64 .f32) (w : FVec F S23x64 .f32)
    (b : FVec F S1x64 .f32) : FVec F S3072x64 .f32 := k0_pay5 h (gather a (stack23 h m)) w b

/-- The second and the third layer. -/
def layer64 (a : FVec F S64x48x240 .f32) (h : FVec F S3072x64 .f32) (m : Fin 5 → FVec F S1x64x64 .f32) (w : FVec F S64x64 .f32)
    (b : FVec F S1x64 .f32) : FVec F S3072x64 .f32 := k0_pay7 h (gather a (stack64 h m)) w b

/-- The node embeddings of a chunk from the blocks that the body loads. -/
def emb (a : FVec F S48x240x64 .f32) (x : FVec F S23x48x64 .f32)
    (m1 : Fin 5 → FVec F S1x23x64 .f32) (s1 : FVec F S23x64 .f32) (b1 : FVec F S1x64 .f32)
    (m2 : Fin 5 → FVec F S1x64x64 .f32) (s2 : FVec F S64x64 .f32) (b2 : FVec F S1x64 .f32)
    (m3 : Fin 5 → FVec F S1x64x64 .f32) (s3 : FVec F S64x64 .f32) (b3 : FVec F S1x64 .f32)
    (f1 : FVec F S64x128 .f32) (c1 : FVec F S1x128 .f32) (f2 : FVec F S128x64 .f32) (c2 : FVec F S1x64 .f32) : FVec F S3072x64 .f32 :=
  dense64 (k0_pay34 (layer64 (k0_pay2 a) (layer64 (k0_pay2 a) (layer23 (k0_pay2 a) (k0_pay3 x) m1 s1 b1) m2 s2 b2) m3 s3 b3) f1 c1) f2 c2

end

/-! ## The rows of one graph -/

section
variable {d e : ℕ}

/-- The rows of graph `l` of a flattened array. -/
def rows (h : FVec Ideal ⟨2, ![3072, d]⟩ .f32) (l : Fin 64) (i : Fin 48) (c : Fin d) : EReal := h (ix2 (row l i) c)
/-- A weight as a matrix. -/
def mat (w : FVec Ideal ⟨2, ![d, e]⟩ .f32) (c : Fin d) (k : Fin e) : EReal := w (ix2 c k)
/-- The one row of a bias. -/
def vec (b : FVec Ideal ⟨2, ![1, e]⟩ .f32) (k : Fin e) : EReal := b (ix2 0 k)
/-- Five slabs of a weight as one array. -/
def slabs (w : Fin 5 → FVec Ideal ⟨3, ![1, d, e]⟩ .f32) (f : Fin 5) (c : Fin d) (k : Fin e) : EReal := w f (ix3 0 c k)
/-- The adjacency of graph `l`, its columns unstacked. -/
def adjOf (a : FVec Ideal S48x240x64 .f32) (l : Fin 64) (f : Fin 5) (i j : Fin 48) : EReal := a (ix3 i (col f j) l)
/-- The node features of graph `l`. -/
def featOf (x : FVec Ideal S23x48x64 .f32) (l : Fin 64) (i : Fin 48) (c : Fin 23) : EReal := x (ix3 c i l)

end

/-- The stacked products at column `j` of feature `f`. -/
theorem stack23_at (h : FVec Ideal S3072x23 .f32) (w : Fin 5 → FVec Ideal S1x23x64 .f32) (l : Fin 64) (f : Fin 5) (j : Fin 48) (k : Fin 64) :
    stack23 h w (ix3 l (col f j) k) = ∑ c, rows h l j c * slabs w f c k := by
  have e (n : ℕ) (hn : n < 3072) (hj : n = l.val * 48 + j.val) : (⟨n, hn⟩ : Fin 3072) = row l j := Fin.ext hj
  fin_cases f <;> pointwise [stack23, slabs, rows, col, row] <;> split_ifs <;> first
    | omega
    | exact Finset.sum_congr rfl fun c _ => by rw [e _ _ (by omega)]; rfl

/-- The stacked products at column `j` of feature `f`. -/
theorem stack64_at (h : FVec Ideal S3072x64 .f32) (w : Fin 5 → FVec Ideal S1x64x64 .f32) (l : Fin 64) (f : Fin 5) (j : Fin 48) (k : Fin 64) :
    stack64 h w (ix3 l (col f j) k) = ∑ c, rows h l j c * slabs w f c k := by
  have e (n : ℕ) (hn : n < 3072) (hj : n = l.val * 48 + j.val) : (⟨n, hn⟩ : Fin 3072) = row l j := Fin.ext hj
  fin_cases f <;> pointwise [stack64, slabs, rows, col, row] <;> split_ifs <;> first
    | omega
    | exact Finset.sum_congr rfl fun c _ => by rw [e _ _ (by omega)]; rfl

/-- The stacked products at column `j` of feature `f`. -/
theorem stack128_at (h : FVec Ideal S3072x128 .f32) (w : Fin 5 → FVec Ideal S1x128x128 .f32) (l : Fin 64) (f : Fin 5) (j : Fin 48) (k : Fin 128) :
    stack128 h w (ix3 l (col f j) k) = ∑ c, rows h l j c * slabs w f c k := by
  have e (n : ℕ) (hn : n < 3072) (hj : n = l.val * 48 + j.val) : (⟨n, hn⟩ : Fin 3072) = row l j := Fin.ext hj
  fin_cases f <;> pointwise [stack128, slabs, rows, col, row] <;> split_ifs <;> first
    | omega
    | exact Finset.sum_congr rfl fun c _ => by rw [e _ _ (by omega)]; rfl

/-- The gathered messages at a row. -/
theorem gather_at (a : FVec Ideal S64x48x240 .f32) (t : FVec Ideal S64x240x64 .f32) (l : Fin 64) (i : Fin 48) (k : Fin 64) :
    gather a t (ix2 (row l i) k) = ∑ f, ∑ j, a (ix3 l i (col f j)) * t (ix3 l (col f j) k) := by
  rw [← sum_col (fun q => a (ix3 l i q) * t (ix3 l q k))]
  pointwise [gather, row]

/-- The edge logits at nodes `i`, `j` and feature `f`. -/
theorem logits_at (p : FVec Ideal S3072x128 .f32) (t : FVec Ideal S64x240x128 .f32) (l : Fin 64) (i : Fin 48) (f : Fin 5) (j : Fin 48) :
    logits p t (ix3 i (col f j) l) = ∑ k, rows p l i k * t (ix3 l (col f j) k) := by
  pointwise [logits]
  rfl

/-- The adjacency after the transposition. -/
theorem pay2_at (a : FVec Ideal S48x240x64 .f32) (l : Fin 64) (i j : Fin 48) (f : Fin 5) :
    k0_pay2 (F := Ideal) a (ix3 l i (col f j)) = adjOf a l f i j := by
  pointwise [k0_pay2, adjOf]

/-- The node features after the transposition. -/
theorem rows_pay3 (x : FVec Ideal S23x48x64 .f32) (l : Fin 64) : rows (k0_pay3 x) l = featOf x l := by
  funext i c
  have e (n : ℕ) (hn : n < 48) (hi : n = i.val) : (⟨n, hn⟩ : Fin 48) = i := Fin.ext hi
  have e' (n : ℕ) (hn : n < 64) (hi : n = l.val) : (⟨n, hn⟩ : Fin 64) = l := Fin.ext hi
  pointwise [k0_pay3, rows, row, featOf]

/-- A dense step followed by the positive part. -/
theorem rows_pay34 (h : FVec Ideal S3072x64 .f32) (w : FVec Ideal S64x128 .f32) (b : FVec Ideal S1x128 .f32) (l : Fin 64) :
    rows (k0_pay34 h w b) l = relu (dense (rows h l) (mat w) (vec b)) := by
  funext i k
  pointwise [k0_pay34, rows, relu, dense, mul, mat, vec]

/-- A dense step. -/
theorem rows_dense64 (h : FVec Ideal S3072x128 .f32) (w : FVec Ideal S128x64 .f32) (b : FVec Ideal S1x64 .f32) (l : Fin 64) :
    rows (dense64 h w b) l = dense (rows h l) (mat w) (vec b) := by
  funext i k
  pointwise [dense64, rows, dense, mul, mat, vec]

/-- The first layer. -/
theorem rows_layer23 (a : FVec Ideal S48x240x64 .f32) (h : FVec Ideal S3072x23 .f32) (m : Fin 5 → FVec Ideal S1x23x64 .f32)
    (w : FVec Ideal S23x64 .f32) (b : FVec Ideal S1x64 .f32) (l : Fin 64) :
    rows (layer23 (k0_pay2 a) h m w b) l = layer (msgKer (adjOf a l) (rows h l) (slabs m)) (rows h l) (mat w) (vec b) := by
  funext i k
  have g : gather (k0_pay2 a) (stack23 h m) (ix2 (row l i) k) = msgKer (adjOf a l) (rows h l) (slabs m) i k := by
    simp only [gather_at, stack23_at, pay2_at, msgKer]
  rw [layer, relu, ← g, rows, layer23]
  generalize gather (k0_pay2 a) (stack23 h m) = t
  pointwise [k0_pay5, rows, mul, mat, vec]

/-- The second and the third layer. -/
theorem rows_layer64 (a : FVec Ideal S48x240x64 .f32) (h : FVec Ideal S3072x64 .f32) (m : Fin 5 → FVec Ideal S1x64x64 .f32)
    (w : FVec Ideal S64x64 .f32) (b : FVec Ideal S1x64 .f32) (l : Fin 64) :
    rows (layer64 (k0_pay2 a) h m w b) l = layer (msgKer (adjOf a l) (rows h l) (slabs m)) (rows h l) (mat w) (vec b) := by
  funext i k
  have g : gather (k0_pay2 a) (stack64 h m) (ix2 (row l i) k) = msgKer (adjOf a l) (rows h l) (slabs m) i k := by
    simp only [gather_at, stack64_at, pay2_at, msgKer]
  rw [layer, relu, ← g, rows, layer64]
  generalize gather (k0_pay2 a) (stack64 h m) = t
  pointwise [k0_pay7, rows, mul, mat, vec]

/-- The node output of a chunk. -/
theorem pay35_at (h : FVec Ideal S3072x64 .f32) (w : FVec Ideal S64x128 .f32) (b : FVec Ideal S1x128 .f32)
    (v : FVec Ideal S128x23 .f32) (q : FVec Ideal S1x23 .f32) (c : Fin 23) (i : Fin 48) (l : Fin 64) :
    k0_pay35 h w b v q (ix3 c i l) = dense (relu (dense (rows h l) (mat w) (vec b))) (mat v) (vec q) i c := by
  rw [← rows_pay34]
  pointwise [k0_pay35, rows, dense, mul, mat, vec, row]

/-- The mask output of a chunk, before its bias. -/
theorem pay36_at (h : FVec Ideal S3072x64 .f32) (w : FVec Ideal S64x128 .f32) (b : FVec Ideal S1x128 .f32)
    (v : FVec Ideal S128x1 .f32) (l : Fin 64) (i : Fin 48) :
    k0_pay36 h w b v (ix3 l i 0) = mul (relu (dense (rows h l) (mat w) (vec b))) (mat v) i 0 := by
  rw [← rows_pay34]
  pointwise [k0_pay36, rows, mul, mat, row]

/-- The edge output of a chunk. -/
theorem edge_at (p : FVec Ideal S3072x128 .f32) (w : Fin 5 → FVec Ideal S1x128x128 .f32) (i j : Fin 48) (f : Fin 5) (l : Fin 64) :
    logits p (stack128 p w) (ix3 i (col f j) l) = edgeKer (rows p l) (slabs w) i j f := by
  simp only [logits_at, stack128_at, edgeKer]

/-- The node embeddings of graph `l` of a chunk. -/
theorem rows_emb (a : FVec Ideal S48x240x64 .f32) (x : FVec Ideal S23x48x64 .f32)
    (m1 : Fin 5 → FVec Ideal S1x23x64 .f32) (s1 : FVec Ideal S23x64 .f32) (b1 : FVec Ideal S1x64 .f32)
    (m2 : Fin 5 → FVec Ideal S1x64x64 .f32) (s2 : FVec Ideal S64x64 .f32) (b2 : FVec Ideal S1x64 .f32)
    (m3 : Fin 5 → FVec Ideal S1x64x64 .f32) (s3 : FVec Ideal S64x64 .f32) (b3 : FVec Ideal S1x64 .f32)
    (f1 : FVec Ideal S64x128 .f32) (c1 : FVec Ideal S1x128 .f32) (f2 : FVec Ideal S128x64 .f32) (c2 : FVec Ideal S1x64 .f32)
    {P : Params} (hm1 : slabs m1 = P.m1) (hs1 : mat s1 = P.s1) (hb1 : vec b1 = P.b1) (hm2 : slabs m2 = P.m2) (hs2 : mat s2 = P.s2)
    (hb2 : vec b2 = P.b2) (hm3 : slabs m3 = P.m3) (hs3 : mat s3 = P.s3) (hb3 : vec b3 = P.b3) (hf1 : mat f1 = P.f1)
    (hc1 : vec c1 = P.c1) (hf2 : mat f2 = P.f2) (hc2 : vec c2 = P.c2) (l : Fin 64) :
    rows (emb a x m1 s1 b1 m2 s2 b2 m3 s3 b3 f1 c1 f2 c2) l = embKer P (adjOf a l) (featOf x l) := by
  simp only [emb, rows_dense64, rows_pay34, rows_layer64, rows_layer23, rows_pay3, hm1, hs1, hb1, hm2, hs2, hb2, hm3, hs3, hb3, hf1,
    hc1, hf2, hc2]
  rfl

end Cert.KernelIdeal.Chunk

end
-- ==== Proof.Blocks.lean ====
/- The blocks that the body leaves in the output windows, from the blocks of the input windows: the payloads of both
   chunks are the steps of `Chunk`. -/
module

public import proofs.«01_k».proof.Proof.KernelIdealBody
public import proofs.«01_k».proof.Proof.Chunk

@[expose] public section

set_option maxRecDepth 16384

noncomputable section

namespace Cert.KernelIdeal.Blocks

open Idealize.ShloMosaic Idealize.ShloMosaic.TcCoe Idealize.SL.Sem
open Cert.KernelIdeal Cert.KernelIdeal.Gen Cert.KernelIdeal.Body Cert.Model Cert.KernelIdeal.Chunk

section
variable {F : FTy → Type} [FloatOps F] (x0 : Vec F S23x48x128 .f32) (x1 : Vec F S48x240x128 .f32) (x2 : Vec F S5x23x64 .f32) (x3 : Vec F S23x64 .f32) (x4 : Vec F S1x64 .f32) (x5 : Vec F S5x64x64 .f32) (x6 : Vec F S64x64 .f32) (x7 : Vec F S1x64 .f32) (x8 : Vec F S5x64x64 .f32) (x9 : Vec F S64x64 .f32) (x10 : Vec F S1x64 .f32) (x11 : Vec F S64x128 .f32) (x12 : Vec F S1x128 .f32) (x13 : Vec F S128x64 .f32) (x14 : Vec F S1x64 .f32) (x15 : Vec F S64x128 .f32) (x16 : Vec F S1x128 .f32) (x17 : Vec F S128x23 .f32) (x18 : Vec F S1x23 .f32) (x19 : Vec F S128x1 .f32) (x20 : Vec F S64x128 .f32) (x21 : Vec F S1x128 .f32) (x22 : Vec F S5x128x128 .f32)

/-- The slabs of the first message weight. -/
def slab23 (w : Vec F S5x23x64 .f32) : Fin 5 → FVec F S1x23x64 .f32 :=
  ![View.ld w r0_2, View.ld w r0_3, View.ld w r0_4, View.ld w r0_5, View.ld w r0_6]
/-- The slabs of the second and the third message weight. -/
def slab64 (w : Vec F S5x64x64 .f32) : Fin 5 → FVec F S1x64x64 .f32 :=
  ![View.ld w r0_9, View.ld w r0_10, View.ld w r0_11, View.ld w r0_12, View.ld w r0_13]
/-- The slabs of the bilinear weight. -/
def slab128 (w : Vec F S5x128x128 .f32) : Fin 5 → FVec F S1x128x128 .f32 :=
  ![View.ld w r0_22, View.ld w r0_23, View.ld w r0_24, View.ld w r0_25, View.ld w r0_26]

/-- The node embeddings of the chunk whose adjacency is `a` and whose features are `x`. -/
def embOf (a : FVec F S48x240x64 .f32) (x : FVec F S23x48x64 .f32) : FVec F S3072x64 .f32 :=
  emb a x (slab23 x2) (View.ld x3 r0_7) (View.ld x4 r0_8) (slab64 x5) (View.ld x6 r0_14) (View.ld x7 r0_8) (slab64 x8)
    (View.ld x9 r0_14) (View.ld x10 r0_8) (View.ld x11 r0_15) (View.ld x12 r0_16) (View.ld x13 r0_17) (View.ld x14 r0_8)

/-- The first chunk's node embeddings. -/
theorem emb0_eq : k0_pay46 x0 x1 x2 x3 x4 x5 x6 x7 x8 x9 x10 x11 x12 x13 x14 x15 x16 x17 x18 x19 x20 x21 x22 = embOf x2 x3 x4 x5 x6 x7 x8 x9 x10 x11 x12 x13 x14 (View.ld x1 r0_0) (View.ld x0 r0_1) := rfl

/-- The second chunk's node embeddings. -/
theorem emb1_eq : k0_pay57 x0 x1 x2 x3 x4 x5 x6 x7 x8 x9 x10 x11 x12 x13 x14 x15 x16 x17 x18 x19 x20 x21 x22 = embOf x2 x3 x4 x5 x6 x7 x8 x9 x10 x11 x12 x13 x14 (View.ld x1 r0_27) (View.ld x0 r0_28) := rfl

/-- The first chunk's node output is formed as the second's. -/
theorem node0_eq : k0_pay13 (k0_pay11 (k0_pay44 x0 x1 x2 x3 x4 x5 x6 x7 x8 x9 x10 x11 x12 x13 x14 x15 x16 x17 x18 x19 x20 x21 x22) (k0_pay45 x0 x1 x2 x3 x4 x5 x6 x7 x8 x9 x10 x11 x12 x13 x14 x15 x16 x17 x18 x19 x20 x21 x22) (View.ld x9 r0_14) (k0_pay43 x0 x1 x2 x3 x4 x5 x6 x7 x8 x9 x10 x11 x12 x13 x14 x15 x16 x17 x18 x19 x20 x21 x22) (View.ld x10 r0_8) (View.ld x11 r0_15) (View.ld x12 r0_16) (View.ld x13 r0_17) (View.ld x14 r0_8) (View.ld x15 r0_15) (View.ld x16 r0_16) (View.ld x17 r0_18)) (k0_pay12 (View.ld x18 r0_19)) =
    k0_pay35 (k0_pay46 x0 x1 x2 x3 x4 x5 x6 x7 x8 x9 x10 x11 x12 x13 x14 x15 x16 x17 x18 x19 x20 x21 x22) (View.ld x15 r0_15) (View.ld x16 r0_16) (View.ld x17 r0_18) (View.ld x18 r0_19) := rfl

/-- The first chunk's mask output is formed as the second's. -/
theorem mask0_eq : k0_pay14 (k0_pay10 (k0_pay44 x0 x1 x2 x3 x4 x5 x6 x7 x8 x9 x10 x11 x12 x13 x14 x15 x16 x17 x18 x19 x20 x21 x22) (k0_pay45 x0 x1 x2 x3 x4 x5 x6 x7 x8 x9 x10 x11 x12 x13 x14 x15 x16 x17 x18 x19 x20 x21 x22) (View.ld x9 r0_14) (k0_pay43 x0 x1 x2 x3 x4 x5 x6 x7 x8 x9 x10 x11 x12 x13 x14 x15 x16 x17 x18 x19 x20 x21 x22) (View.ld x10 r0_8) (View.ld x11 r0_15) (View.ld x12 r0_16) (View.ld x13 r0_17) (View.ld x14 r0_8) (View.ld x15 r0_15) (View.ld x16 r0_16)) (View.ld x19 r0_20) =
    k0_pay36 (k0_pay46 x0 x1 x2 x3 x4 x5 x6 x7 x8 x9 x10 x11 x12 x13 x14 x15 x16 x17 x18 x19 x20 x21 x22) (View.ld x15 r0_15) (View.ld x16 r0_16) (View.ld x19 r0_20) := rfl

/-- The first chunk's edge output. -/
theorem edge0_eq (h : FVec F S3072x64 .f32) : k0_pay19 (k0_pay15 h (View.ld x20 r0_15) (View.ld x21 r0_16)) (k0_pay16 h (View.ld x20 r0_15) (View.ld x21 r0_16) (View.ld x22 r0_22)) (k0_pay17 h (View.ld x20 r0_15) (View.ld x21 r0_16) (View.ld x22 r0_23)) (k0_pay18 h (View.ld x20 r0_15) (View.ld x21 r0_16) (View.ld x22 r0_24)) (View.ld x22 r0_25) (View.ld x22 r0_26) =
    logits (k0_pay34 h (View.ld x20 r0_15) (View.ld x21 r0_16)) (stack128 (k0_pay34 h (View.ld x20 r0_15) (View.ld x21 r0_16)) (slab128 x22)) := rfl

/-- The second chunk's edge output. -/
theorem edge1_eq (h : FVec F S3072x64 .f32) : k0_pay1 (k0_pay37 h (View.ld x20 r0_15) (View.ld x21 r0_16)) (View.ld x22 r0_22) (View.ld x22 r0_23) (View.ld x22 r0_24) (View.ld x22 r0_25) (View.ld x22 r0_26) =
    logits (k0_pay34 h (View.ld x20 r0_15) (View.ld x21 r0_16)) (stack128 (k0_pay34 h (View.ld x20 r0_15) (View.ld x21 r0_16)) (slab128 x22)) := rfl

end

end Cert.KernelIdeal.Blocks

end
-- ==== Proof.Tiles.lean ====
/- The blocks that the body leaves in the output windows, entry by entry, as the network of the graph in that lane. -/
module

public import proofs.«01_k».proof.Proof.Blocks
public import Idealize.ShloMosaic.Lib.Pipeline.ValueKit

@[expose] public section

set_option maxRecDepth 16384

noncomputable section

namespace Cert.KernelIdeal.Blocks

open Idealize.ShloMosaic Idealize.ShloMosaic.TcCoe Idealize.SL.Sem
open Cert.KernelIdeal Cert.KernelIdeal.Gen Cert.KernelIdeal.Body Cert.Model Cert.KernelIdeal.Chunk

/-- The adjacency in lane `b` of a block. -/
def laneAdj (x1 : Vec Ideal S48x240x128 .f32) (b : Fin 128) (f : Fin 5) (i j : Fin 48) : EReal := x1 (ix3 i (col f j) b)
/-- The node features in lane `b` of a block. -/
def laneFeat (x0 : Vec Ideal S23x48x128 .f32) (b : Fin 128) (i : Fin 48) (c : Fin 23) : EReal := x0 (ix3 c i b)

/-- A chunk's lane in the block: the first chunk has the lanes below 64. -/
def lane0 (l : Fin 64) : Fin 128 := ⟨l.val, by omega⟩
/-- The second chunk has the others. -/
def lane1 (l : Fin 64) : Fin 128 := ⟨64 + l.val, by omega⟩

/-! ## What the body loads -/

/-- The first load of the adjacency window holds the lanes below 64. -/
theorem adj0 (x1 : Vec Ideal S48x240x128 .f32) (l : Fin 64) : adjOf (View.ld x1 r0_0) l = laneAdj x1 (lane0 l) := by
  funext f i j
  pointwise [adjOf, laneAdj, lane0]

/-- The second load holds the other lanes. -/
theorem adj1 (x1 : Vec Ideal S48x240x128 .f32) (l : Fin 64) : adjOf (View.ld x1 r0_27) l = laneAdj x1 (lane1 l) := by
  funext f i j
  pointwise [adjOf, laneAdj, lane1]

/-- The first load of the feature window holds the lanes below 64. -/
theorem feat0 (x0 : Vec Ideal S23x48x128 .f32) (l : Fin 64) : featOf (View.ld x0 r0_1) l = laneFeat x0 (lane0 l) := by
  funext i c
  pointwise [featOf, laneFeat, lane0]

/-- The second load holds the other lanes. -/
theorem feat1 (x0 : Vec Ideal S23x48x128 .f32) (l : Fin 64) : featOf (View.ld x0 r0_28) l = laneFeat x0 (lane1 l) := by
  funext i c
  pointwise [featOf, laneFeat, lane1]

/-- A weight of three axes as a function. -/
def cube {g d e : ℕ} (w : FVec Ideal ⟨3, ![g, d, e]⟩ .f32) (f : Fin g) (c : Fin d) (k : Fin e) : EReal := w (ix3 f c k)

/-- The five loads of a first-layer message weight make up its window. -/
theorem slabs23 (w : Vec Ideal S5x23x64 .f32) : slabs (slab23 w) = cube w := by
  funext f c k
  fin_cases f <;> pointwise [slabs, slab23, cube]

/-- The five loads of a later message weight make up its window. -/
theorem slabs64 (w : Vec Ideal S5x64x64 .f32) : slabs (slab64 w) = cube w := by
  funext f c k
  fin_cases f <;> pointwise [slabs, slab64, cube]

/-- The five loads of the bilinear weight make up its window. -/
theorem slabs128 (w : Vec Ideal S5x128x128 .f32) : slabs (slab128 w) = cube w := by
  funext f c k
  fin_cases f <;> pointwise [slabs, slab128, cube]

/-- The load of a whole 23 × 64 weight is the weight. -/
theorem mat_ld23x64 (w : Vec Ideal S23x64 .f32) : mat (View.ld w r0_7) = mat w := by
  funext c k
  pointwise [mat]

/-- The load of a whole bias row of 64 entries is the row. -/
theorem vec_ld1x64 (w : Vec Ideal S1x64 .f32) : vec (View.ld w r0_8) = vec w := by
  funext k
  pointwise [vec]

/-- The load of a whole 64 × 64 weight is the weight. -/
theorem mat_ld64x64 (w : Vec Ideal S64x64 .f32) : mat (View.ld w r0_14) = mat w := by
  funext c k
  pointwise [mat]

/-- The load of a whole 64 × 128 weight is the weight. -/
theorem mat_ld64x128 (w : Vec Ideal S64x128 .f32) : mat (View.ld w r0_15) = mat w := by
  funext c k
  pointwise [mat]

/-- The load of a whole bias row of 128 entries is the row. -/
theorem vec_ld1x128 (w : Vec Ideal S1x128 .f32) : vec (View.ld w r0_16) = vec w := by
  funext k
  pointwise [vec]

/-- The load of a whole 128 × 64 weight is the weight. -/
theorem mat_ld128x64 (w : Vec Ideal S128x64 .f32) : mat (View.ld w r0_17) = mat w := by
  funext c k
  pointwise [mat]

/-- The load of a whole 128 × 23 weight is the weight. -/
theorem mat_ld128x23 (w : Vec Ideal S128x23 .f32) : mat (View.ld w r0_18) = mat w := by
  funext c k
  pointwise [mat]

/-- The load of a whole bias row of 23 entries is the row. -/
theorem vec_ld1x23 (w : Vec Ideal S1x23 .f32) : vec (View.ld w r0_19) = vec w := by
  funext k
  pointwise [vec]

/-- The load of a whole 128 × 1 weight is the weight. -/
theorem mat_ld128x1 (w : Vec Ideal S128x1 .f32) : mat (View.ld w r0_20) = mat w := by
  funext c k
  rw [Subsingleton.elim k 0]
  pointwise [mat]

section
variable (x0 : Vec Ideal S23x48x128 .f32) (x1 : Vec Ideal S48x240x128 .f32) (x2 : Vec Ideal S5x23x64 .f32) (x3 : Vec Ideal S23x64 .f32) (x4 : Vec Ideal S1x64 .f32) (x5 : Vec Ideal S5x64x64 .f32) (x6 : Vec Ideal S64x64 .f32) (x7 : Vec Ideal S1x64 .f32) (x8 : Vec Ideal S5x64x64 .f32) (x9 : Vec Ideal S64x64 .f32) (x10 : Vec Ideal S1x64 .f32) (x11 : Vec Ideal S64x128 .f32) (x12 : Vec Ideal S1x128 .f32) (x13 : Vec Ideal S128x64 .f32) (x14 : Vec Ideal S1x64 .f32) (x15 : Vec Ideal S64x128 .f32) (x16 : Vec Ideal S1x128 .f32) (x17 : Vec Ideal S128x23 .f32) (x18 : Vec Ideal S1x23 .f32) (x19 : Vec Ideal S128x1 .f32) (x20 : Vec Ideal S64x128 .f32) (x21 : Vec Ideal S1x128 .f32) (x22 : Vec Ideal S5x128x128 .f32)

/-- The weight windows' blocks are the parameters `P` of the network; the bilinear weight's block is the symmetrised
    weight, averaged with the factor `half`. -/
structure Weights (P : Params) (half : EReal) : Prop where
  m1 : cube x2 = P.m1
  s1 : mat x3 = P.s1
  b1 : vec x4 = P.b1
  m2 : cube x5 = P.m2
  s2 : mat x6 = P.s2
  b2 : vec x7 = P.b2
  m3 : cube x8 = P.m3
  s3 : mat x9 = P.s3
  b3 : vec x10 = P.b3
  f1 : mat x11 = P.f1
  c1 : vec x12 = P.c1
  f2 : mat x13 = P.f2
  c2 : vec x14 = P.c2
  n1 : mat x15 = P.n1
  d1 : vec x16 = P.d1
  n2 : mat x17 = fun k c => P.n2 k c.succ
  d2 : vec x18 = fun c => P.d2 c.succ
  mask : mat x19 = fun k _ => P.n2 k 0
  e1 : mat x20 = P.e1
  g1 : vec x21 = P.g1
  wb : cube x22 = symm half P.wb

variable {x0 x1 x2 x3 x4 x5 x6 x7 x8 x9 x10 x11 x12 x13 x14 x15 x16 x17 x18 x19 x20 x21 x22}
variable {P : Params} {half : EReal} (hw : Weights x2 x3 x4 x5 x6 x7 x8 x9 x10 x11 x12 x13 x14 x15 x16 x17 x18 x19 x20 x21 x22 P half)
include hw

/-- A chunk's node embeddings. -/
theorem rows_embOf (a : FVec Ideal S48x240x64 .f32) (x : FVec Ideal S23x48x64 .f32) (l : Fin 64) :
    rows (embOf x2 x3 x4 x5 x6 x7 x8 x9 x10 x11 x12 x13 x14 a x) l = embKer P (adjOf a l) (featOf x l) := by
  refine rows_emb _ _ _ _ _ _ _ _ _ _ _ _ _ _ _ ?_ ?_ ?_ ?_ ?_ ?_ ?_ ?_ ?_ ?_ ?_ ?_ ?_ l
  · rw [slabs23, hw.m1]
  · rw [mat_ld23x64, hw.s1]
  · rw [vec_ld1x64, hw.b1]
  · rw [slabs64, hw.m2]
  · rw [mat_ld64x64, hw.s2]
  · rw [vec_ld1x64, hw.b2]
  · rw [slabs64, hw.m3]
  · rw [mat_ld64x64, hw.s3]
  · rw [vec_ld1x64, hw.b3]
  · rw [mat_ld64x128, hw.f1]
  · rw [vec_ld1x128, hw.c1]
  · rw [mat_ld128x64, hw.f2]
  · rw [vec_ld1x64, hw.c2]

/-- A chunk's node output. -/
theorem node_tile (h : FVec Ideal S3072x64 .f32) (c : Fin 23) (i : Fin 48) (l : Fin 64) :
    k0_pay35 h (View.ld x15 r0_15) (View.ld x16 r0_16) (View.ld x17 r0_18) (View.ld x18 r0_19) (ix3 c i l) = nodes P (rows h l) i c.succ := by
  rw [pay35_at, mat_ld64x128, vec_ld1x128, mat_ld128x23, vec_ld1x23, hw.n1, hw.d1, hw.n2, hw.d2]
  rfl

/-- A chunk's mask output. -/
theorem mask_tile (h : FVec Ideal S3072x64 .f32) (l : Fin 64) (i : Fin 48) :
    k0_pay36 h (View.ld x15 r0_15) (View.ld x16 r0_16) (View.ld x19 r0_20) (ix3 l i 0) = mul (relu (dense (rows h l) P.n1 P.d1)) P.n2 i 0 := by
  rw [pay36_at, mat_ld64x128, vec_ld1x128, mat_ld128x1, hw.n1, hw.d1, hw.mask]
  rfl

/-- A chunk's edge output. -/
theorem edge_tile (h : FVec Ideal S3072x64 .f32) (i j : Fin 48) (f : Fin 5) (l : Fin 64) :
    logits (k0_pay34 h (View.ld x20 r0_15) (View.ld x21 r0_16)) (stack128 (k0_pay34 h (View.ld x20 r0_15) (View.ld x21 r0_16)) (slab128 x22)) (ix3 i (col f j) l) =
      edgeKer (pair P (rows h l)) (symm half P.wb) i j f := by
  rw [edge_at, rows_pay34, slabs128, mat_ld64x128, vec_ld1x128, hw.e1, hw.g1, hw.wb]
  rfl

/-- The node block of a point. -/
theorem out23_at (y : S23x48x128.Idx) : out0_23 (F := Ideal) x0 x1 x2 x3 x4 x5 x6 x7 x8 x9 x10 x11 x12 x13 x14 x15 x16 x17 x18 x19 x20 x21 x22 y =
    nodes P (embKer P (laneAdj x1 (y 2)) (laneFeat x0 (y 2))) (y 1) (Fin.succ (n := 23) (y 0)) := by
  unfold out0_23
  rw [node0_eq, emb0_eq, emb1_eq]
  canon_tiles z h
  · idx_vars z
    rw [show y 0 = z0 from Fin.ext h0, show y 1 = z1 from Fin.ext h1, show y 2 = lane1 z2 from Fin.ext h2]
    rw [← adj1, ← feat1, ← rows_embOf hw]
    exact node_tile hw _ _ _ _
  · idx_vars z
    rw [show y 0 = z0 from Fin.ext h0, show y 1 = z1 from Fin.ext h1, show y 2 = lane0 z2 from Fin.ext h2]
    rw [← adj0, ← feat0, ← rows_embOf hw]
    exact node_tile hw _ _ _ _

/-- The edge block of a point, at the column of feature `f` and node `j`. -/
theorem out24_at (y : S48x240x128.Idx) (f : Fin 5) (j : Fin 48) (hy : y 1 = col f j) : out0_24 (F := Ideal) x0 x1 x2 x3 x4 x5 x6 x7 x8 x9 x10 x11 x12 x13 x14 x15 x16 x17 x18 x19 x20 x21 x22 y =
    edgeKer (pair P (embKer P (laneAdj x1 (y 2)) (laneFeat x0 (y 2)))) (symm half P.wb) (y 0) j f := by
  unfold out0_24
  rw [edge0_eq, edge1_eq, emb0_eq, emb1_eq]
  have hv : (y 1).val = (col f j).val := congrArg Fin.val hy
  canon_tiles z h
  · idx_vars z
    rw [show y 0 = z0 from Fin.ext h0, show y 2 = lane1 z2 from Fin.ext h2, show z1 = col f j from Fin.ext (h1.symm.trans hv)]
    rw [← adj1, ← feat1, ← rows_embOf hw]
    exact edge_tile hw _ _ _ _ _
  · idx_vars z
    rw [show y 0 = z0 from Fin.ext h0, show y 2 = lane0 z2 from Fin.ext h2, show z1 = col f j from Fin.ext (h1.symm.trans hv)]
    rw [← adj0, ← feat0, ← rows_embOf hw]
    exact edge_tile hw _ _ _ _ _

/-- The mask block of a point, before the bias. -/
theorem out25_at (y : S128x48x1.Idx) : out0_25 (F := Ideal) x0 x1 x2 x3 x4 x5 x6 x7 x8 x9 x10 x11 x12 x13 x14 x15 x16 x17 x18 x19 x20 x21 x22 y =
    mul (relu (dense (embKer P (laneAdj x1 (y 0)) (laneFeat x0 (y 0))) P.n1 P.d1)) P.n2 (y 1) 0 := by
  unfold out0_25
  rw [mask0_eq, emb0_eq, emb1_eq]
  canon_tiles z h
  · idx_vars z
    rw [show y 0 = lane1 z0 from Fin.ext h0, show y 1 = z1 from Fin.ext h1, Subsingleton.elim z2 0]
    rw [← adj1, ← feat1, ← rows_embOf hw]
    exact mask_tile hw _ _ _
  · idx_vars z
    rw [show y 0 = lane0 z0 from Fin.ext h0, show y 1 = z1 from Fin.ext h1, Subsingleton.elim z2 0]
    rw [← adj0, ← feat0, ← rows_embOf hw]
    exact mask_tile hw _ _ _

end

end Cert.KernelIdeal.Blocks

end
-- ==== Proof.Args.lean ====
/- The network's parameters and inputs read off the argument arrays of the programs. -/
module

public import Idealize.ShloMosaic.Lib.Pointwise
public import proofs.«01_k».proof.Proof.Model

@[expose] public section

set_option maxRecDepth 16384

noncomputable section

namespace Cert.Args

open Idealize.ShloMosaic Cert.Model

/-- An array of one axis. -/
abbrev A1 (a : ℕ) := FVec Ideal ⟨1, ![a]⟩ .f32
/-- An array of two axes. -/
abbrev A2 (a b : ℕ) := FVec Ideal ⟨2, ![a, b]⟩ .f32
/-- An array of three axes. -/
abbrev A3 (a b c : ℕ) := FVec Ideal ⟨3, ![a, b, c]⟩ .f32
/-- An array of four axes. -/
abbrev A4 (a b c d : ℕ) := FVec Ideal ⟨4, ![a, b, c, d]⟩ .f32

/-- The entries of an array of one axis. -/
def f1 {a : ℕ} (w : A1 a) (k : Fin a) : EReal := w (ix1 k)
/-- The entries of an array of two axes. -/
def f2 {a b : ℕ} (w : A2 a b) (c : Fin a) (k : Fin b) : EReal := w (ix2 c k)
/-- The entries of an array of three axes. -/
def f3 {a b d : ℕ} (w : A3 a b d) (f : Fin a) (c : Fin b) (k : Fin d) : EReal := w (ix3 f c k)

/-- Message weights: the rows of edge feature `f` are the rows `d * f + c`. -/
def msg23 (w : A2 115 64) (f : Fin 5) (c : Fin 23) (k : Fin 64) : EReal := w (ix2 ⟨f.val * 23 + c.val, by omega⟩ k)
/-- Message weights of the second and the third layer. -/
def msg64 (w : A2 320 64) (f : Fin 5) (c : Fin 64) (k : Fin 64) : EReal := w (ix2 ⟨f.val * 64 + c.val, by omega⟩ k)

/-- The adjacency of graph `b`: edge feature `f` of the edge from `i` to `j`. -/
def adj (w : A4 1024 48 48 5) (b : Fin 1024) (f : Fin 5) (i j : Fin 48) : EReal := w (ix4 b i j f)
/-- The features of the nodes of graph `b`, `d` of them a node. -/
def feat {d : ℕ} (w : A3 1024 48 d) (b : Fin 1024) (i : Fin 48) (c : Fin d) : EReal := w (ix3 b i c)

/-- The factor of the average, one half. -/
def half : EReal := Ideal.ofBits .f32 0x3F000000#32

/-- The parameters from the argument arrays, in the programs' order. -/
def params (a2 : A2 115 64) (a3 : A2 23 64) (a4 : A1 64) (a5 : A2 320 64) (a6 : A2 64 64) (a7 : A1 64) (a8 : A2 320 64)
    (a9 : A2 64 64) (a10 : A1 64) (a11 : A2 64 128) (a12 : A1 128) (a13 : A2 128 64) (a14 : A1 64) (a15 : A2 64 128)
    (a16 : A1 128) (a17 : A2 128 24) (a18 : A1 24) (a19 : A2 64 128) (a20 : A1 128) (a21 : A3 5 128 128) : Params where
  m1 := msg23 a2
  s1 := f2 a3
  b1 := f1 a4
  m2 := msg64 a5
  s2 := f2 a6
  b2 := f1 a7
  m3 := msg64 a8
  s3 := f2 a9
  b3 := f1 a10
  f1 := f2 a11
  c1 := f1 a12
  f2 := f2 a13
  c2 := f1 a14
  n1 := f2 a15
  d1 := f1 a16
  n2 := f2 a17
  d2 := f1 a18
  e1 := f2 a19
  g1 := f1 a20
  wb := f3 a21

/-- One half is a real number. -/
theorem half_real : ∃ r : ℝ, half = (r : EReal) := by
  refine ⟨1 / 2, ?_⟩
  simp only [half, Ideal.ofBits, Ideal.ieee]
  simp
  rw [← EReal.coe_mul]
  congr 1
  norm_num

end Cert.Args

end
-- ==== Proof.Entry.lean ====
/- The blocks of the input windows at a grid point, entry by entry, from the argument arrays: the host operations before
   the region reshape, transpose and slice them, and average the bilinear weight with its transpose. -/
module

public import proofs.«01_k».proof.Proof.Tiles
public import proofs.«01_k».proof.Proof.Args
public import Idealize.ShloMosaic.Lib.Claim

@[expose] public section

set_option maxRecDepth 16384

noncomputable section

namespace Cert.KernelIdeal.Entry

open Idealize.ShloMosaic Idealize.ShloMosaic.TcCoe Idealize.SL.Sem
open Cert.KernelIdeal Cert.KernelIdeal.Gen Cert.KernelIdeal.Body Cert.Model Cert.KernelIdeal.Chunk Cert.KernelIdeal.Blocks

variable (m : (ℓ : Loc nD τ sig) → Buf (Elt Ideal) ℓ) (c : Dev nD)

/-- The parameters of the network at launch. -/
abbrev prm : Params := Args.params (m ((c : Thread nD τ).loc main_arg2)) (m ((c : Thread nD τ).loc main_arg3))
  (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9))
  (m ((c : Thread nD τ).loc main_arg10)) (m ((c : Thread nD τ).loc main_arg11)) (m ((c : Thread nD τ).loc main_arg12))
  (m ((c : Thread nD τ).loc main_arg13)) (m ((c : Thread nD τ).loc main_arg14)) (m ((c : Thread nD τ).loc main_arg15))
  (m ((c : Thread nD τ).loc main_arg16)) (m ((c : Thread nD τ).loc main_arg17)) (m ((c : Thread nD τ).loc main_arg18))
  (m ((c : Thread nD τ).loc main_arg19)) (m ((c : Thread nD τ).loc main_arg20)) (m ((c : Thread nD τ).loc main_arg21))

/-- The weights' windows stay at block 0 in every axis. -/
theorem idx : ∀ t : Fin cfg0.N, win0_0.index t = ![0, 0, t.val] ∧ win0_1.index t = ![0, 0, t.val] ∧
    win0_2.index t = ![0, 0, 0] ∧
    win0_3.index t = ![0, 0] ∧
    win0_4.index t = ![0, 0] ∧
    win0_5.index t = ![0, 0, 0] ∧
    win0_6.index t = ![0, 0] ∧
    win0_7.index t = ![0, 0] ∧
    win0_8.index t = ![0, 0, 0] ∧
    win0_9.index t = ![0, 0] ∧
    win0_10.index t = ![0, 0] ∧
    win0_11.index t = ![0, 0] ∧
    win0_12.index t = ![0, 0] ∧
    win0_13.index t = ![0, 0] ∧
    win0_14.index t = ![0, 0] ∧
    win0_15.index t = ![0, 0] ∧
    win0_16.index t = ![0, 0] ∧
    win0_17.index t = ![0, 0] ∧
    win0_18.index t = ![0, 0] ∧
    win0_19.index t = ![0, 0] ∧
    win0_20.index t = ![0, 0] ∧
    win0_21.index t = ![0, 0] ∧
    win0_22.index t = ![0, 0, 0] :=
  (by decide +kernel : ∀ t : Fin grid0.N, _)

/-- The contents of a buffer when the region starts: the host operations before it, from the launch contents. -/
theorem V_eq (b : Ref sig .tc) : V m c b = StableHlo.after hostOps0 (fun b => m (c, b)) (Proc.tc.devRef b) := by
  show StableHlo.after [hostOps0].flatten _ _ = _
  rw [List.flatten_singleton]

set_option maxHeartbeats 4000000 in
/-- The message weights' blocks: the rows of one edge feature, cut out of the flat weight. -/
theorem cubes (t : Fin cfg0.N) :
    cube (g := 5) (d := 23) (e := 64) (iblk m c 2 t) = (prm m c).m1 ∧
    cube (g := 5) (d := 64) (e := 64) (iblk m c 5 t) = (prm m c).m2 ∧
    cube (g := 5) (d := 64) (e := 64) (iblk m c 8 t) = (prm m c).m3 := by
  refine ⟨?_, ?_, ?_⟩ <;>
    (funext f d k
     unfold cube prm Args.params
     (first | unfold Args.msg23 | unfold Args.msg64)
     blk_simp [iblk, idx t]
     rw [V_eq]
     entry_read
     pointwise
     blk_ext [idx t])

set_option maxHeartbeats 4000000 in
/-- The matrices' blocks are the arguments. -/
theorem mats (t : Fin cfg0.N) :
    mat (d := 23) (e := 64) (iblk m c 3 t) = (prm m c).s1 ∧
    mat (d := 64) (e := 64) (iblk m c 6 t) = (prm m c).s2 ∧
    mat (d := 64) (e := 64) (iblk m c 9 t) = (prm m c).s3 ∧
    mat (d := 64) (e := 128) (iblk m c 11 t) = (prm m c).f1 ∧
    mat (d := 128) (e := 64) (iblk m c 13 t) = (prm m c).f2 ∧
    mat (d := 64) (e := 128) (iblk m c 15 t) = (prm m c).n1 ∧
    mat (d := 64) (e := 128) (iblk m c 20 t) = (prm m c).e1 := by
  refine ⟨?_, ?_, ?_, ?_, ?_, ?_, ?_⟩ <;>
    (funext d k
     unfold mat prm Args.params Args.f2
     blk_simp [iblk, idx t]
     rw [V_eq]
     entry_read
     pointwise
     blk_ext [idx t])

set_option maxHeartbeats 4000000 in
/-- The biases' blocks are the arguments. -/
theorem vecs (t : Fin cfg0.N) :
    vec (e := 64) (iblk m c 4 t) = (prm m c).b1 ∧
    vec (e := 64) (iblk m c 7 t) = (prm m c).b2 ∧
    vec (e := 64) (iblk m c 10 t) = (prm m c).b3 ∧
    vec (e := 128) (iblk m c 12 t) = (prm m c).c1 ∧
    vec (e := 64) (iblk m c 14 t) = (prm m c).c2 ∧
    vec (e := 128) (iblk m c 16 t) = (prm m c).d1 ∧
    vec (e := 128) (iblk m c 21 t) = (prm m c).g1 := by
  refine ⟨?_, ?_, ?_, ?_, ?_, ?_, ?_⟩ <;>
    (funext k
     unfold vec prm Args.params Args.f1
     blk_simp [iblk, idx t]
     rw [V_eq]
     entry_read
     pointwise
     blk_ext [idx t])

/-- Second weights of the node head, without the mask's column. -/
theorem blk17 (t : Fin cfg0.N) : mat (d := 128) (e := 23) (iblk m c 17 t) = fun k c' => (prm m c).n2 k c'.succ := by
  funext d k
  unfold mat prm Args.params Args.f2
  blk_simp [iblk, idx t]
  rw [V_eq]
  entry_read
  pointwise
  blk_ext [idx t]
  exact Nat.add_comm 1 k.val

/-- Second bias of the node head, without the mask's entry. -/
theorem blk18 (t : Fin cfg0.N) : vec (e := 23) (iblk m c 18 t) = fun c' => (prm m c).d2 c'.succ := by
  funext k
  unfold vec prm Args.params Args.f1
  blk_simp [iblk, idx t]
  rw [V_eq]
  entry_read
  pointwise
  blk_ext [idx t]
  exact Nat.add_comm 1 k.val

/-- The mask's column of the node head. -/
theorem blk19 (t : Fin cfg0.N) : mat (d := 128) (e := 1) (iblk m c 19 t) = fun k _ => (prm m c).n2 k 0 := by
  funext d k
  unfold mat prm Args.params Args.f2
  blk_simp [iblk, idx t]
  rw [V_eq]
  entry_read
  pointwise
  blk_ext [idx t]

/-- The bilinear weight averaged with its transpose. -/
theorem blk22 (t : Fin cfg0.N) : cube (g := 5) (d := 128) (e := 128) (iblk m c 22 t) = Model.symm Args.half (prm m c).wb := by
  funext f d k
  unfold cube prm Args.params Model.symm Args.f3
  blk_simp [iblk, idx t]
  rw [V_eq]
  entry_read
  pointwise
  refine congrArg (Args.half * ·) (congrArg₂ (· + ·) ?_ ?_) <;> blk_ext [idx t]

/-- The node features of the batch entries of a grid point. -/
theorem blk0 (t : Fin cfg0.N) (b : Fin 128) (hb : t.val * 128 + b.val < 1024) :
    laneFeat (iblk m c 0 t) b = Args.feat (m ((c : Thread nD τ).loc main_arg0)) ⟨t.val * 128 + b.val, hb⟩ := by
  funext i d
  unfold laneFeat Args.feat
  blk_simp [iblk, idx t]
  rw [V_eq]
  entry_read
  pointwise
  blk_ext [idx t]

/-- The adjacency of the batch entries of a grid point. -/
theorem blk1 (t : Fin cfg0.N) (b : Fin 128) (hb : t.val * 128 + b.val < 1024) :
    laneAdj (iblk m c 1 t) b = Args.adj (m ((c : Thread nD τ).loc main_arg1)) ⟨t.val * 128 + b.val, hb⟩ := by
  funext f i j
  unfold laneAdj Args.adj
  blk_simp [iblk, idx t]
  rw [V_eq]
  entry_read
  pointwise
  blk_ext [idx t]
  · rw [col_val]; omega
  · rw [col_val]; omega

/-- The weights' blocks at a grid point hold the network's parameters. -/
theorem weights (t : Fin cfg0.N) : Weights (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (iblk m c 14 t) (iblk m c 15 t) (iblk m c 16 t) (iblk m c 17 t) (iblk m c 18 t) (iblk m c 19 t) (iblk m c 20 t)
    (iblk m c 21 t) (iblk m c 22 t) (prm m c) Args.half :=
  have ⟨c2, c5, c8⟩ := cubes m c t
  have ⟨a3, a6, a9, a11, a13, a15, a20⟩ := mats m c t
  have ⟨v4, v7, v10, v12, v14, v16, v21⟩ := vecs m c t
  { m1 := c2, s1 := a3, b1 := v4, m2 := c5, s2 := a6, b2 := v7, m3 := c8, s3 := a9, b3 := v10, f1 := a11, c1 := v12
    f2 := a13, c2 := v14, n1 := a15, d1 := v16, n2 := blk17 m c t, d2 := blk18 m c t, mask := blk19 m c t, e1 := a20
    g1 := v21, wb := blk22 m c t }

end Cert.KernelIdeal.Entry

end
-- ==== Proof.Arrays.lean ====
/- The arrays the kernel's region leaves: every element of the three output arrays, as the network's functions of the
   argument arrays. Each grid point writes the batch entries of its block. -/
module

public import proofs.«01_k».proof.Proof.Entry
public import Idealize.ShloMosaic.Lib.Pipeline.ValueKit

@[expose] public section

set_option maxRecDepth 16384

noncomputable section

namespace Cert.KernelIdeal.Arrays

open Idealize.ShloMosaic Idealize.ShloMosaic.TcCoe Idealize.SL.Sem
open Cert.KernelIdeal Cert.KernelIdeal.Gen Cert.KernelIdeal.Body Cert.Model Cert.KernelIdeal.Chunk Cert.KernelIdeal.Blocks
open Cert.KernelIdeal.Entry

variable (m : (ℓ : Loc nD τ sig) → Buf (Elt Ideal) ℓ) (c : Dev nD)

/-- The adjacency of graph `b` at launch. -/
abbrev adjm (b : Fin 1024) := Args.adj (m ((c : Thread nD τ).loc main_arg1)) b
/-- The node features of graph `b` at launch. -/
abbrev featm (b : Fin 1024) := Args.feat (d := 23) (m ((c : Thread nD τ).loc main_arg0)) b

/-- The node embedding of graph `b`. -/
def embm (b : Fin 1024) : Fin 48 → Fin 64 → EReal := embKer (prm m c) (adjm m c b) (featm m c b)

/-- The node logits, batch last. -/
def G23 : FVec Ideal S23x48x1024 .f32 := fun z => nodes (prm m c) (embm m c (z 2)) (z 1) (Fin.succ (n := 23) (z 0))
/-- The edge logits, batch last, edge feature and neighbour in one axis. -/
def G24 : FVec Ideal S48x240x1024 .f32 := fun z =>
  edgeKer (pair (prm m c) (embm m c (z 2))) (Model.symm Args.half (prm m c).wb) (z 0)
    (⟨(z 1).val % 48, Nat.mod_lt _ (by decide)⟩ : Fin 48)
    (⟨(z 1).val / 48, Nat.div_lt_of_lt_mul (show (z 1).val < 48 * 5 from (z 1).isLt)⟩ : Fin 5)
/-- The mask logits before the addition of their bias. -/
def G25 : FVec Ideal S1024x48x1 .f32 := fun z =>
  mul (relu (dense (embm m c (z 0)) (prm m c).n1 (prm m c).d1)) (prm m c).n2 (z 1) 0

/-- The output windows' blocks move along the batch axis. -/
theorem idxo : ∀ t : Fin cfg0.N, win0_23.index t = ![0, 0, t.val] ∧ win0_24.index t = ![0, 0, t.val] ∧
    win0_25.index t = ![t.val, 0, 0] := (by decide +kernel : ∀ t : Fin grid0.N, _)

/-- The embedding that a grid point computes at lane `b` of its block. -/
theorem emb_lane (t : Fin cfg0.N) (b : Fin 128) (b' : Fin 1024) (h : b'.val = t.val * 128 + b.val) :
    embKer (prm m c) (laneAdj (iblk m c 1 t) b) (laneFeat (iblk m c 0 t) b) = embm m c b' := by
  have hb : t.val * 128 + b.val < 1024 := h ▸ b'.isLt
  have e : b' = ⟨t.val * 128 + b.val, hb⟩ := Fin.ext h
  rw [embm, blk0 m c t b hb, blk1 m c t b hb, e]

/-- What a grid point leaves in window 23's block. -/
theorem point23 (t : Fin cfg0.N) (y : S23x48x128.Idx) (z : S23x48x1024.Idx) (h0 : (z 0).val = (y 0).val)
    (h1 : (z 1).val = (y 1).val) (h2 : (z 2).val = t.val * 128 + (y 2).val) :
    nodes (prm m c) (embKer (prm m c) (laneAdj (iblk m c 1 t) (y 2)) (laneFeat (iblk m c 0 t) (y 2))) (y 1) (Fin.succ (n := 23) (y 0)) =
      G23 m c z := by
  rw [emb_lane m c t (y 2) (z 2) h2, G23, show z 1 = y 1 from Fin.ext h1, show z 0 = y 0 from Fin.ext h0]

/-- What a grid point leaves in window 24's block. -/
theorem point24 (t : Fin cfg0.N) (y : S48x240x128.Idx) (z : S48x240x1024.Idx) (h0 : (z 0).val = (y 0).val)
    (h1 : (z 1).val = (y 1).val) (h2 : (z 2).val = t.val * 128 + (y 2).val) (f : Fin 5) (j : Fin 48) (hy : y 1 = col f j) :
    edgeKer (pair (prm m c) (embKer (prm m c) (laneAdj (iblk m c 1 t) (y 2)) (laneFeat (iblk m c 0 t) (y 2))))
      (Model.symm Args.half (prm m c).wb) (y 0) j f = G24 m c z := by
  have e : (z 1).val = f.val * 48 + j.val := by rw [h1, hy, col_val]
  rw [emb_lane m c t (y 2) (z 2) h2, G24, show z 0 = y 0 from Fin.ext h0]
  congr 1
  · exact Fin.ext (show j.val = (z 1).val % 48 by omega)
  · exact Fin.ext (show f.val = (z 1).val / 48 by omega)

/-- What a grid point leaves in window 25's block. -/
theorem point25 (t : Fin cfg0.N) (y : S128x48x1.Idx) (z : S1024x48x1.Idx) (h0 : (z 0).val = t.val * 128 + (y 0).val)
    (h1 : (z 1).val = (y 1).val) :
    mul (relu (dense (embKer (prm m c) (laneAdj (iblk m c 1 t) (y 0)) (laneFeat (iblk m c 0 t) (y 0))) (prm m c).n1 (prm m c).d1))
      (prm m c).n2 (y 1) 0 = G25 m c z := by
  rw [emb_lane m c t (y 0) (z 0) h0, G25, show z 1 = y 1 from Fin.ext h1]

/-- The array of window 23. -/
theorem arr23 : (dats m 0 c).arrAt 23 cfg0.N = G23 m c := by
  refine (dats m 0 c).arrAt_eq_of_covers 23 _ (by decide +kernel) fun t _ y => ?_
  blk_simp
  rw [after0_23]
  refine (out23_at (weights m c t) y).trans (point23 m c t y _ ?_ ?_ ?_) <;> blk_simp [idxo t]

/-- The array of window 24. -/
theorem arr24 : (dats m 0 c).arrAt 24 cfg0.N = G24 m c := by
  refine (dats m 0 c).arrAt_eq_of_covers 24 _ (by decide +kernel) fun t _ y => ?_
  blk_simp
  rw [after0_24]
  have hy : (y 1).val < 240 := (y 1).isLt
  have hc : y 1 = col ⟨(y 1).val / 48, by omega⟩ ⟨(y 1).val % 48, by omega⟩ :=
    Fin.ext (show (y 1).val = (y 1).val / 48 * 48 + (y 1).val % 48 by omega)
  refine (out24_at (weights m c t) y _ _ hc).trans (point24 m c t y _ ?_ ?_ ?_ _ _ hc) <;> blk_simp [idxo t]

/-- The array of window 25. -/
theorem arr25 : (dats m 0 c).arrAt 25 cfg0.N = G25 m c := by
  refine (dats m 0 c).arrAt_eq_of_covers 25 _ (by decide +kernel) fun t _ y => ?_
  blk_simp
  rw [after0_25]
  refine (out25_at (weights m c t) y).trans (point25 m c t y _ ?_ ?_) <;> blk_simp [idxo t]

end Cert.KernelIdeal.Arrays

end
-- ==== Proof.Tail.lean ====
/- The kernel's three results: the host operations after the region transpose and reshape the region's arrays, and add the
   mask's bias. -/
module

public import proofs.«01_k».proof.Proof.Arrays

@[expose] public section

set_option maxRecDepth 16384

noncomputable section

namespace Cert.KernelIdeal.Tail

open Idealize.ShloMosaic Idealize.ShloMosaic.TcCoe Idealize.SL.Sem
open Cert.KernelIdeal Cert.KernelIdeal.Gen Cert.KernelIdeal.Body Cert.Model
open Cert.KernelIdeal.Entry Cert.KernelIdeal.Arrays

variable (m : (ℓ : Loc nD τ sig) → Buf (Elt Ideal) ℓ) (c : Dev nD)

/-- The contents of a buffer when the program ends. -/
abbrev fin (b : Ref sig .tc) : Buf (Elt Ideal) ((c : Thread nD τ).loc b) :=
  Pipeline.afterTail₀ cfgs (dats m) 0 (V0 m) [hostOps1] c b

/-- The contents of the buffers when the region ends. -/
abbrev mid : Valuation τ sig (Elt Ideal) :=
  Pipeline.withArrays (cfgs 0).spec c (V0 m c) fun w => (dats m 0 c).arrAt w (cfgs 0).N

/-- The windows' arrays are distinct. -/
theorem arr_inj : Function.Injective (Pipeline.arrRef spec0) := by decide +kernel

/-- The region's first output. -/
theorem mid23 : mid m c (Proc.devRef .tc main_v23_0) = G23 m c :=
  (Pipeline.withArrays_arr spec0 arr_inj c (V0 m c) (fun w => (dats m 0 c).arrAt w (cfgs 0).N) 23).trans (arr23 m c)
/-- The region's second output. -/
theorem mid24 : mid m c (Proc.devRef .tc main_v23_1) = G24 m c :=
  (Pipeline.withArrays_arr spec0 arr_inj c (V0 m c) (fun w => (dats m 0 c).arrAt w (cfgs 0).N) 24).trans (arr24 m c)
/-- The region's third output. -/
theorem mid25 : mid m c (Proc.devRef .tc main_v23_2) = G25 m c :=
  (Pipeline.withArrays_arr spec0 arr_inj c (V0 m c) (fun w => (dats m 0 c).arrAt w (cfgs 0).N) 25).trans (arr25 m c)
/-- The mask's bias, which the region leaves alone. -/
theorem mid22 : mid m c (Proc.devRef .tc main_v22) = V m c main_v22 :=
  Pipeline.withArrays_of_ne spec0 c (V0 m c) _ main_v22 (by exact (by decide : ∀ w, Pipeline.arrRef spec0 w ≠ main_v22))

/-- The contents at the end are the later host operations' results. -/
theorem fin_eq (b : Ref sig .tc) : fin m c b = StableHlo.after hostOps1 (mid m c) (Proc.devRef .tc b) := by
  show StableHlo.after [hostOps1].flatten _ _ = _
  rw [List.flatten_singleton]

/-- The first result: the node logits. -/
theorem node_at (b : Fin 1024) (i : Fin 48) (k : Fin 23) :
    (show FVec Ideal S1024x48x23 .f32 from fin m c main_v24) (ix3 b i k) = nodes (prm m c) (embm m c b) i k.succ := by
  have e : fin m c main_v24 = transpose S1024x48x23 [2, 1, 0] (G23 m c) transposes_S23x48x1024_S1024x48x23_2_1_0 := by
    rw [fin_eq, ← mid23]
    generalize mid m c = W
    after_results
  rw [e]
  pointwise
  rfl

/-- The second result: the edge logits. -/
theorem edge_at (b : Fin 1024) (i j : Fin 48) (f : Fin 5) :
    (show FVec Ideal S1024x48x48x5 .f32 from fin m c main_v26) (ix4 b i j f) =
      edgeKer (pair (prm m c) (embm m c b)) (Model.symm Args.half (prm m c).wb) i j f := by
  have e : fin m c main_v26 = transpose S1024x48x48x5 [3, 0, 2, 1]
      (shapeCast S48x5x48x1024 (G24 m c) shapeCasts_S48x240x1024_S48x5x48x1024) transposes_S48x5x48x1024_S1024x48x48x5_3_0_2_1 := by
    rw [fin_eq, ← mid24]
    generalize mid m c = W
    after_results
    rfl
  rw [e]
  pointwise
  rw [G24]
  congr 1
  · exact Fin.ext (show (f.val * 48 + j.val) % 48 = j.val by omega)
  · exact Fin.ext (show (f.val * 48 + j.val) / 48 = f.val by omega)

/-- The mask's bias is the node head's bias at column 0. -/
theorem bias_at (i : S_.Idx) : (show FVec Ideal S_ .f32 from V m c main_v22) i = (prm m c).d2 0 := by
  rw [V_eq]
  entry_read
  pointwise
  rfl

/-- The third result: the mask logits. -/
theorem mask_at (b : Fin 1024) (i : Fin 48) :
    (show FVec Ideal S1024x48 .f32 from fin m c main_v29) (ix2 b i) = nodes (prm m c) (embm m c b) i 0 := by
  have e : fin m c main_v29 = addf (shapeCast S1024x48 (G25 m c) shapeCasts_S1024x48x1_S1024x48)
      (broadcastInDim S1024x48 ![] bcast_S_S1024x48 (show FVec Ideal S_ .f32 from V m c main_v22)) := by
    rw [fin_eq, ← mid25, ← mid22]
    generalize mid m c = W
    after_results
    rfl
  rw [e]
  pointwise
  exact congrArg (G25 m c (ix3 b i 0) + ·) (bias_at m c ix0)

/-- The kernel ends with its results at those contents. -/
theorem run (g : Dev nD → PrngReg) : θ_run defs (onTc (τ := τ) (main (F := Ideal))) ⟨m, fun _ => 0, g⟩ fun r => ∀ c : Dev nD,
    r.2.mem ((c : Thread nD τ).loc main_v24) = fin m c main_v24
      ∧ r.2.mem ((c : Thread nD τ).loc main_v26) = fin m c main_v26
      ∧ r.2.mem ((c : Thread nD τ).loc main_v29) = fin m c main_v29 :=
  θ_run_mono (run_main m g) fun _ h c =>
    ⟨(h c).2 main_v24 (by decide +kernel), (h c).2 main_v26 (by decide +kernel), (h c).2 main_v29 (by decide +kernel)⟩

end Cert.KernelIdeal.Tail

end
-- ==== Proof.RefStages.lean ====
/- The reference's steps, each at one graph: what a layer and what a dense step compute from the arrays before them. -/
module

public import proofs.«01_k».proof.Proof.Args
public import proofs.«01_k».proof.Proof.Gen.ReferenceIdeal.Read

@[expose] public section

set_option maxRecDepth 16384

noncomputable section

namespace Cert.ReferenceIdeal.Stages

open Idealize.ShloMosaic Cert.ReferenceIdeal Cert.ReferenceIdeal.Gen Cert.ReferenceIdeal.Read Cert.Model Cert.Args

/-- The positive part of an array of 64 features. -/
def pos64 (h : FVec Ideal S1024x48x64 .f32) : FVec Ideal S1024x48x64 .f32 := maximumf h (val_main_v8 (F := Ideal))
/-- The positive part of an array of 128 features. -/
def pos128 (h : FVec Ideal S1024x48x128 .f32) : FVec Ideal S1024x48x128 .f32 := maximumf h (val_main_v34 (F := Ideal))

/-- Multiplication by a weight and addition of a bias, from 64 to 128 features. -/
def lin128 (h : FVec Ideal S1024x48x64 .f32) (w : FVec Ideal S64x128 .f32) (b : FVec Ideal S128 .f32) : FVec Ideal S1024x48x128 .f32 :=
  addf (Host.dotGeneral dot_S1024x48x64_S64x128_S1024x48x128_2_0_01_1_n_n none h w)
    (broadcastInDim S1024x48x128 ![0, 1, 2] bcast_S1x1x128_S1024x48x128_0_1_2 (broadcastInDim S1x1x128 ![2] bcast_S128_S1x1x128_2 b))
/-- The same from 128 to 64 features. -/
def lin64 (h : FVec Ideal S1024x48x128 .f32) (w : FVec Ideal S128x64 .f32) (b : FVec Ideal S64 .f32) : FVec Ideal S1024x48x64 .f32 :=
  addf (Host.dotGeneral dot_S1024x48x128_S128x64_S1024x48x64_2_0_01_1_n_n none h w)
    (broadcastInDim S1024x48x64 ![0, 1, 2] bcast_S1x1x64_S1024x48x64_0_1_2 (broadcastInDim S1x1x64 ![2] bcast_S64_S1x1x64_2 b))
/-- The same from 128 to 24 features. -/
def lin24 (h : FVec Ideal S1024x48x128 .f32) (w : FVec Ideal S128x24 .f32) (b : FVec Ideal S24 .f32) : FVec Ideal S1024x48x24 .f32 :=
  addf (Host.dotGeneral dot_S1024x48x128_S128x24_S1024x48x24_2_0_01_1_n_n none h w)
    (broadcastInDim S1024x48x24 ![0, 1, 2] bcast_S1x1x24_S1024x48x24_0_1_2 (broadcastInDim S1x1x24 ![2] bcast_S24_S1x1x24_2 b))

/-- The features of a node's neighbours, summed per edge feature; 64 features each, side by side. -/
def nb64 (h : FVec Ideal S1024x48x64 .f32) (a : FVec Ideal S1024x48x48x5 .f32) : FVec Ideal S1024x48x320 .f32 :=
  shapeCast _ (Host.dotGeneral dot_S1024x48x48x5_S1024x48x64_S1024x48x5x64_2_1_13_2_0_0 none a h) shapeCasts_S1024x48x5x64_S1024x48x320

/-- The layer on features of 64. -/
def lay64 (h : FVec Ideal S1024x48x64 .f32) (a : FVec Ideal S1024x48x48x5 .f32) (w : FVec Ideal S320x64 .f32)
    (s : FVec Ideal S64x64 .f32) (b : FVec Ideal S64 .f32) : FVec Ideal S1024x48x64 .f32 :=
  pos64 (addf (addf (Host.dotGeneral dot_S1024x48x320_S320x64_S1024x48x64_2_0_01_1_n_n none
      (nb64 h a) w)
      (Host.dotGeneral dot_S1024x48x64_S64x64_S1024x48x64_2_0_01_1_n_n none h s))
    (broadcastInDim S1024x48x64 ![0, 1, 2] bcast_S1x1x64_S1024x48x64_0_1_2 (broadcastInDim S1x1x64 ![2] bcast_S64_S1x1x64_2 b)))

/-- The features of a node's neighbours, summed per edge feature; 23 features each, side by side. -/
def nb23 (h : FVec Ideal S1024x48x23 .f32) (a : FVec Ideal S1024x48x48x5 .f32) : FVec Ideal S1024x48x115 .f32 :=
  shapeCast _ (Host.dotGeneral dot_S1024x48x48x5_S1024x48x23_S1024x48x5x23_2_1_13_2_0_0 none a h) shapeCasts_S1024x48x5x23_S1024x48x115

/-- The layer on the node features. -/
def lay23 (h : FVec Ideal S1024x48x23 .f32) (a : FVec Ideal S1024x48x48x5 .f32) (w : FVec Ideal S115x64 .f32)
    (s : FVec Ideal S23x64 .f32) (b : FVec Ideal S64 .f32) : FVec Ideal S1024x48x64 .f32 :=
  pos64 (addf (addf (Host.dotGeneral dot_S1024x48x115_S115x64_S1024x48x64_2_0_01_1_n_n none
      (nb23 h a) w)
      (Host.dotGeneral dot_S1024x48x23_S23x64_S1024x48x64_2_0_01_1_n_n none h s))
    (broadcastInDim S1024x48x64 ![0, 1, 2] bcast_S1x1x64_S1024x48x64_0_1_2 (broadcastInDim S1x1x64 ![2] bcast_S64_S1x1x64_2 b)))

/-- The bilinear form of the ends of an edge. -/
def bil (p : FVec Ideal S1024x48x128 .f32) (w : FVec Ideal S5x128x128 .f32) : FVec Ideal S1024x48x48x5 .f32 :=
  transpose S1024x48x48x5 [0, 2, 1, 3] (Host.dotGeneral dot_S1024x48x128_S1024x48x5x128_S1024x48x48x5_2_3_1_12_0_0 none p
    (Host.dotGeneral dot_S1024x48x128_S5x128x128_S1024x48x5x128_2_1_01_02_n_n none p w)) transposes_S1024x48x48x5_S1024x48x48x5_0_2_1_3

/-- Its average with the one of the ends exchanged. -/
def avg (q : FVec Ideal S1024x48x48x5 .f32) : FVec Ideal S1024x48x48x5 .f32 :=
  mulf (val_main_v64 (F := Ideal)) (addf q (transpose S1024x48x48x5 [0, 2, 1, 3] q transposes_S1024x48x48x5_S1024x48x48x5_0_2_1_3))

/-- A sum over the rows of a flat message weight is the sum over the edge features of the sums over the inputs. -/
theorem sum_rows23 (G : Fin 115 → EReal) : ∑ q, G q = ∑ f : Fin 5, ∑ c : Fin 23, G ⟨f.val * 23 + c.val, by omega⟩ :=
  Fin.sum_univ_tiles 5 23 rfl G
/-- The same for a weight of the other two layers. -/
theorem sum_rows64 (G : Fin 320 → EReal) : ∑ q, G q = ∑ f : Fin 5, ∑ c : Fin 64, G ⟨f.val * 64 + c.val, by omega⟩ :=
  Fin.sum_univ_tiles 5 64 rfl G

/-- The positive part at a graph. -/
theorem pos64_at (h : FVec Ideal S1024x48x64 .f32) (b : Fin 1024) : feat (d := 64) (pos64 h) b = relu (feat (d := 64) h b) := by
  funext i k
  pointwise [pos64, feat, relu, val_main_v8, val_main_cst]

/-- The positive part at a graph. -/
theorem pos128_at (h : FVec Ideal S1024x48x128 .f32) (b : Fin 1024) : feat (d := 128) (pos128 h) b = relu (feat (d := 128) h b) := by
  funext i k
  pointwise [pos128, feat, relu, val_main_v34, val_main_cst_2]

/-- The dense step at a graph. -/
theorem lin128_at (h : FVec Ideal S1024x48x64 .f32) (w : FVec Ideal S64x128 .f32) (b : FVec Ideal S128 .f32) (g : Fin 1024) :
    feat (d := 128) (lin128 h w b) g = dense (feat (d := 64) h g) (f2 (a := 64) (b := 128) w) (f1 (a := 128) b) := by
  funext i k
  pointwise [lin128, feat, dense, mul, f1, f2]

/-- The dense step at a graph. -/
theorem lin64_at (h : FVec Ideal S1024x48x128 .f32) (w : FVec Ideal S128x64 .f32) (b : FVec Ideal S64 .f32) (g : Fin 1024) :
    feat (d := 64) (lin64 h w b) g = dense (feat (d := 128) h g) (f2 (a := 128) (b := 64) w) (f1 (a := 64) b) := by
  funext i k
  pointwise [lin64, feat, dense, mul, f1, f2]

/-- The dense step at a graph. -/
theorem lin24_at (h : FVec Ideal S1024x48x128 .f32) (w : FVec Ideal S128x24 .f32) (b : FVec Ideal S24 .f32) (g : Fin 1024) :
    feat (d := 24) (lin24 h w b) g = dense (feat (d := 128) h g) (f2 (a := 128) (b := 24) w) (f1 (a := 24) b) := by
  funext i k
  pointwise [lin24, feat, dense, mul, f1, f2]

/-- The sum over the neighbours. -/
theorem nb64_at (h : FVec Ideal S1024x48x64 .f32) (a : FVec Ideal S1024x48x48x5 .f32) (g : Fin 1024) (i : Fin 48) (f : Fin 5)
    (c : Fin 64) : nb64 h a (ix3 g i (⟨f.val * 64 + c.val, by omega⟩ : Fin 320)) = ∑ j, adj a g f i j * feat (d := 64) h g j c := by
  pointwise [nb64, adj, feat]

/-- The layer on features of 64 at a graph. -/
theorem lay64_at (h : FVec Ideal S1024x48x64 .f32) (a : FVec Ideal S1024x48x48x5 .f32) (w : FVec Ideal S320x64 .f32)
    (s : FVec Ideal S64x64 .f32) (b : FVec Ideal S64 .f32) (g : Fin 1024) :
    feat (d := 64) (lay64 h a w s b) g = layer (msgRef (adj a g) (feat (d := 64) h g) (msg64 w)) (feat (d := 64) h g)
      (f2 (a := 64) (b := 64) s) (f1 (a := 64) b) := by
  rw [lay64, pos64_at]
  refine congrArg relu (funext fun i => funext fun k => ?_)
  unfold msgRef msg64
  simp only [← nb64_at]
  rw [← sum_rows64 fun q => nb64 h a (ix3 g i q) * w (ix2 q k)]
  pointwise [feat, mul, f1, f2]

/-- The sum over the neighbours. -/
theorem nb23_at (h : FVec Ideal S1024x48x23 .f32) (a : FVec Ideal S1024x48x48x5 .f32) (g : Fin 1024) (i : Fin 48) (f : Fin 5)
    (c : Fin 23) : nb23 h a (ix3 g i (⟨f.val * 23 + c.val, by omega⟩ : Fin 115)) = ∑ j, adj a g f i j * feat (d := 23) h g j c := by
  pointwise [nb23, adj, feat]

/-- The layer on the node features at a graph. -/
theorem lay23_at (h : FVec Ideal S1024x48x23 .f32) (a : FVec Ideal S1024x48x48x5 .f32) (w : FVec Ideal S115x64 .f32)
    (s : FVec Ideal S23x64 .f32) (b : FVec Ideal S64 .f32) (g : Fin 1024) :
    feat (d := 64) (lay23 h a w s b) g = layer (msgRef (adj a g) (feat (d := 23) h g) (msg23 w)) (feat (d := 23) h g)
      (f2 (a := 23) (b := 64) s) (f1 (a := 64) b) := by
  rw [lay23, pos64_at]
  refine congrArg relu (funext fun i => funext fun k => ?_)
  unfold msgRef msg23
  simp only [← nb23_at]
  rw [← sum_rows23 fun q => nb23 h a (ix3 g i q) * w (ix2 q k)]
  pointwise [feat, mul, f1, f2]

/-- The bilinear form at an edge. -/
theorem bil_at (p : FVec Ideal S1024x48x128 .f32) (w : FVec Ideal S5x128x128 .f32) (g : Fin 1024) (i j : Fin 48) (f : Fin 5) :
    bil p w (ix4 g i j f) = ∑ k, (∑ h, feat (d := 128) p g i h * f3 (a := 5) (b := 128) (d := 128) w f h k) * feat (d := 128) p g j k := by
  simp only [mul_comm _ (feat (d := 128) p g j _)]
  pointwise [bil, feat, f3]

/-- The average at an edge. -/
theorem avg_at (q : FVec Ideal S1024x48x48x5 .f32) (g : Fin 1024) (i j : Fin 48) (f : Fin 5) :
    avg q (ix4 g i j f) = half * (q (ix4 g i j f) + q (ix4 g j i f)) := by
  pointwise [avg, half, val_main_v64, val_main_cst_5]

end Cert.ReferenceIdeal.Stages

end
-- ==== Proof.Ref.lean ====
/- The reference's three results, entry by entry, as the network's functions of the argument arrays. -/
module

public import proofs.«01_k».proof.Proof.RefStages

@[expose] public section

set_option maxRecDepth 16384

noncomputable section

namespace Cert.ReferenceIdeal.Ref

open Idealize.ShloMosaic Cert.ReferenceIdeal Cert.ReferenceIdeal.Gen Cert.ReferenceIdeal.Read Cert.ReferenceIdeal.Stages
open Cert.Model Cert.Args

variable (x0 : FVec Ideal S1024x48x23 .f32) (x1 : FVec Ideal S1024x48x48x5 .f32) (x2 : FVec Ideal S115x64 .f32) (x3 : FVec
  Ideal S23x64 .f32) (x4 : FVec Ideal S64 .f32) (x5 : FVec Ideal S320x64 .f32) (x6 : FVec Ideal S64x64 .f32) (x7 : FVec
  Ideal S64 .f32) (x8 : FVec Ideal S320x64 .f32) (x9 : FVec Ideal S64x64 .f32) (x10 : FVec Ideal S64 .f32) (x11 : FVec
  Ideal S64x128 .f32) (x12 : FVec Ideal S128 .f32) (x13 : FVec Ideal S128x64 .f32) (x14 : FVec Ideal S64 .f32) (x15 :
  FVec Ideal S64x128 .f32) (x16 : FVec Ideal S128 .f32) (x17 : FVec Ideal S128x24 .f32) (x18 : FVec Ideal S24 .f32) (x19
  : FVec Ideal S64x128 .f32) (x20 : FVec Ideal S128 .f32) (x21 : FVec Ideal S5x128x128 .f32)

/-- The features after the first layer. -/
theorem h1 (b : Fin 1024) : feat (d := 64) (val_main_v9 (F := Ideal) x0 x1 x2 x3 x4) b = h1Ref (params x2 x3 x4 x5 x6 x7 x8 x9 x10 x11 x12 x13 x14 x15 x16 x17 x18 x19 x20 x21) (adj x1 b) (feat x0 b) :=
  lay23_at x0 x1 x2 x3 x4 b

/-- The features after the second layer. -/
theorem h2 (b : Fin 1024) : feat (d := 64) (val_main_v19 (F := Ideal) x0 x1 x2 x3 x4 x5 x6 x7) b = h2Ref (params x2 x3 x4 x5 x6 x7 x8 x9 x10 x11 x12 x13 x14 x15 x16 x17 x18 x19 x20 x21) (adj x1 b) (feat x0 b) := by
  refine (lay64_at (val_main_v9 (F := Ideal) x0 x1 x2 x3 x4) x1 x5 x6 x7 b).trans ?_
  rw [h1 x0 x1 x2 x3 x4 x5 x6 x7 x8 x9 x10 x11 x12 x13 x14 x15 x16 x17 x18 x19 x20 x21]; rfl

/-- The features after the third layer. -/
theorem h3 (b : Fin 1024) : feat (d := 64) (val_main_v29 (F := Ideal) x0 x1 x2 x3 x4 x5 x6 x7 x8 x9 x10) b = h3Ref (params x2 x3 x4 x5 x6 x7 x8 x9 x10 x11 x12 x13 x14 x15 x16 x17 x18 x19 x20 x21) (adj x1 b) (feat x0 b) := by
  refine (lay64_at (val_main_v19 (F := Ideal) x0 x1 x2 x3 x4 x5 x6 x7) x1 x8 x9 x10 b).trans ?_
  rw [h2 x0 x1 x2 x3 x4 x5 x6 x7 x8 x9 x10 x11 x12 x13 x14 x15 x16 x17 x18 x19 x20 x21]; rfl

/-- The node embedding. -/
theorem emb (b : Fin 1024) : feat (d := 64) (val_main_v39 (F := Ideal) x0 x1 x2 x3 x4 x5 x6 x7 x8 x9 x10 x11 x12 x13 x14) b = embRef (params x2 x3 x4 x5 x6 x7 x8 x9 x10 x11 x12 x13 x14 x15 x16 x17 x18 x19 x20 x21) (adj x1 b) (feat x0 b) := by
  refine (lin64_at (pos128 (lin128 (val_main_v29 (F := Ideal) x0 x1 x2 x3 x4 x5 x6 x7 x8 x9 x10) x11 x12)) x13 x14 b).trans ?_
  rw [pos128_at, lin128_at, h3 x0 x1 x2 x3 x4 x5 x6 x7 x8 x9 x10 x11 x12 x13 x14 x15 x16 x17 x18 x19 x20 x21]; rfl

/-- The node output before it is cut into the mask and the node logits. -/
theorem out (b : Fin 1024) : feat (d := 24) (val_main_v49 (F := Ideal) x0 x1 x2 x3 x4 x5 x6 x7 x8 x9 x10 x11 x12 x13 x14 x15 x16 x17 x18) b =
    nodes (params x2 x3 x4 x5 x6 x7 x8 x9 x10 x11 x12 x13 x14 x15 x16 x17 x18 x19 x20 x21) (embRef (params x2 x3 x4 x5 x6 x7 x8 x9 x10 x11 x12 x13 x14 x15 x16 x17 x18 x19 x20 x21) (adj x1 b) (feat x0 b)) := by
  refine (lin24_at (pos128 (lin128 (val_main_v39 (F := Ideal) x0 x1 x2 x3 x4 x5 x6 x7 x8 x9 x10 x11 x12 x13 x14) x15 x16)) x17 x18 b).trans ?_
  rw [pos128_at, lin128_at, emb x0 x1 x2 x3 x4 x5 x6 x7 x8 x9 x10 x11 x12 x13 x14 x15 x16 x17 x18 x19 x20 x21]; rfl

/-- The features of the edge logits. -/
theorem prs (b : Fin 1024) : feat (d := 128) (val_main_v58 (F := Ideal) x0 x1 x2 x3 x4 x5 x6 x7 x8 x9 x10 x11 x12 x13 x14 x19 x20) b =
    pair (params x2 x3 x4 x5 x6 x7 x8 x9 x10 x11 x12 x13 x14 x15 x16 x17 x18 x19 x20 x21) (embRef (params x2 x3 x4 x5 x6 x7 x8 x9 x10 x11 x12 x13 x14 x15 x16 x17 x18 x19 x20 x21) (adj x1 b) (feat x0 b)) := by
  refine (pos128_at (lin128 (val_main_v39 (F := Ideal) x0 x1 x2 x3 x4 x5 x6 x7 x8 x9 x10 x11 x12 x13 x14) x19 x20) b).trans ?_
  rw [lin128_at, emb x0 x1 x2 x3 x4 x5 x6 x7 x8 x9 x10 x11 x12 x13 x14 x15 x16 x17 x18 x19 x20 x21]; rfl

/-- The edge logits. -/
theorem edges (b : Fin 1024) (i j : Fin 48) (f : Fin 5) : val_main_v65 (F := Ideal) x0 x1 x2 x3 x4 x5 x6 x7 x8 x9 x10 x11 x12 x13 x14 x19 x20 x21 (ix4 b i j f) =
    edgeRef half (pair (params x2 x3 x4 x5 x6 x7 x8 x9 x10 x11 x12 x13 x14 x15 x16 x17 x18 x19 x20 x21) (embRef (params x2 x3 x4 x5 x6 x7 x8 x9 x10 x11 x12 x13 x14 x15 x16 x17 x18 x19 x20 x21) (adj x1 b) (feat x0 b))) (f3 (a := 5) (b := 128) (d := 128) x21) i j f := by
  refine (avg_at (bil (val_main_v58 (F := Ideal) x0 x1 x2 x3 x4 x5 x6 x7 x8 x9 x10 x11 x12 x13 x14 x19 x20) x21) b i j f).trans ?_
  rw [bil_at, bil_at, prs x0 x1 x2 x3 x4 x5 x6 x7 x8 x9 x10 x11 x12 x13 x14 x15 x16 x17 x18 x19 x20 x21]; rfl

/-- The node logits: the node output without column 0. -/
theorem logits (b : Fin 1024) (i : Fin 48) (c : Fin 23) : val_main_v52 (F := Ideal) x0 x1 x2 x3 x4 x5 x6 x7 x8 x9 x10 x11 x12 x13 x14 x15 x16 x17 x18 (ix3 b i c) =
    nodes (params x2 x3 x4 x5 x6 x7 x8 x9 x10 x11 x12 x13 x14 x15 x16 x17 x18 x19 x20 x21) (embRef (params x2 x3 x4 x5 x6 x7 x8 x9 x10 x11 x12 x13 x14 x15 x16 x17 x18 x19 x20 x21) (adj x1 b) (feat x0 b)) i c.succ := by
  rw [← out x0 x1 x2 x3 x4 x5 x6 x7 x8 x9 x10 x11 x12 x13 x14 x15 x16 x17 x18 x19 x20 x21, feat]
  pointwise [val_main_v52]
  exact congrArg _ (congrArg (ix3 b i) (Fin.ext (Nat.add_comm 1 c.val)))

/-- The mask: column 0 of the node output. -/
theorem mask (b : Fin 1024) (i : Fin 48) : val_main_v51 (F := Ideal) x0 x1 x2 x3 x4 x5 x6 x7 x8 x9 x10 x11 x12 x13 x14 x15 x16 x17 x18 (ix2 b i) =
    nodes (params x2 x3 x4 x5 x6 x7 x8 x9 x10 x11 x12 x13 x14 x15 x16 x17 x18 x19 x20 x21) (embRef (params x2 x3 x4 x5 x6 x7 x8 x9 x10 x11 x12 x13 x14 x15 x16 x17 x18 x19 x20 x21) (adj x1 b) (feat x0 b)) i 0 := by
  rw [← out x0 x1 x2 x3 x4 x5 x6 x7 x8 x9 x10 x11 x12 x13 x14 x15 x16 x17 x18 x19 x20 x21, feat]
  pointwise [val_main_v51, val_main_v50]

end Cert.ReferenceIdeal.Ref

end
-- ==== Proof.Pre.lean ====
/- What the precondition says of the arrays: every element is a real number. -/
module

public import proofs.«01_k».proof.Defs
public import proofs.«01_k».proof.Proof.Args
public import Idealize.ShloMosaic.Lib.KernelVsHost

@[expose] public section

set_option maxRecDepth 16384

noncomputable section

namespace Cert.Pre

open Idealize.ShloMosaic Idealize.ShloMosaic.TcCoe Idealize.SL.Sem
open Cert.Model Cert.Args

/-- The relations between shapes that the precondition's operations take. -/
theorem facts : Cert.Pre_finite_inputs.Facts := by
  constructor <;> decide

/-- Every element of an array is a real number. -/
def Fin' {s : Shape} (x : FVec Ideal s .f32) : Prop := ∀ i, ∃ r : ℝ, x i = (r : EReal)

/-- An array passes the comparison of its absolute values with infinity exactly when its elements are real numbers. -/
theorem fin_of {s : Shape} {x : FVec Ideal s .f32} (h : Cert.Pre_finite_inputs.S_.BroadcastsInDim s ![])
    (e : cmpf .olt (Host.absf x) (broadcastInDim s ![] h (constant (F := Ideal) Cert.Pre_finite_inputs.S_ .f32 0x7F800000#32)) = fun _ => 1#1) :
    Fin' x := by
  intro i
  have e1 : FloatOps.cmpf .olt (FloatOps.hostAbsf (x i)) (FloatOps.ofBits (F := Ideal) .f32 0x7F800000#32) = 1#1 := congrFun e i
  rw [← Ideal.xori_weird_eq_hostAbsf_olt_inf] at e1
  have e2 : IntOp.xori (BitVec.ofBool (decide ((x i : EReal) = ⊤ ∨ (x i : EReal) = ⊥))) 1#1 = 1#1 := e1
  have e3 : ¬ ((x i : EReal) = ⊤ ∨ (x i : EReal) = ⊥) := by
    intro hx
    simp [hx, IntOp.xori] at e2
  push Not at e3
  exact ⟨EReal.toReal (x i), (EReal.coe_toReal e3.1 e3.2).symm⟩

section
variable {n d g : ℕ}

/-- A vector of reals, entry by entry. -/
theorem real1 {b : Fin n → EReal} (h : ∀ i, ∃ r : ℝ, b i = (r : EReal)) : Real1 b := by
  choose r hr using h
  exact ⟨r, funext hr⟩
/-- A matrix of reals, entry by entry. -/
theorem real2 {b : Fin n → Fin d → EReal} (h : ∀ i k, ∃ r : ℝ, b i k = (r : EReal)) : Real2 b := by
  choose r hr using h
  exact ⟨r, funext fun i => funext (hr i)⟩
/-- A three-dimensional array of reals, entry by entry. -/
theorem real3 {b : Fin g → Fin n → Fin d → EReal} (h : ∀ f i k, ∃ r : ℝ, b f i k = (r : EReal)) : Real3 b := by
  choose r hr using h
  exact ⟨r, funext fun f => funext fun i => funext (hr f i)⟩

end

/-- With real arrays the parameters are real. The node head's weights and biases need not be. -/
theorem params_real {a2 : A2 115 64} {a3 : A2 23 64} {a4 : A1 64} {a5 : A2 320 64} {a6 : A2 64 64} {a7 : A1 64} {a8 : A2 320 64}
    {a9 : A2 64 64} {a10 : A1 64} {a11 : A2 64 128} {a12 : A1 128} {a13 : A2 128 64} {a14 : A1 64} {a15 : A2 64 128}
    {a16 : A1 128} {a17 : A2 128 24} {a18 : A1 24} {a19 : A2 64 128} {a20 : A1 128} {a21 : A3 5 128 128}
    (h2 : Fin' a2) (h3 : Fin' a3) (h4 : Fin' a4) (h5 : Fin' a5) (h6 : Fin' a6) (h7 : Fin' a7) (h8 : Fin' a8) (h9 : Fin' a9)
    (h10 : Fin' a10) (h11 : Fin' a11) (h12 : Fin' a12) (h13 : Fin' a13) (h14 : Fin' a14) (h19 : Fin' a19) (h20 : Fin' a20)
    (h21 : Fin' a21) :
    (params a2 a3 a4 a5 a6 a7 a8 a9 a10 a11 a12 a13 a14 a15 a16 a17 a18 a19 a20 a21).IsReal where
  m1 := real3 fun _ _ _ => h2 _
  s1 := real2 fun _ _ => h3 _
  b1 := real1 fun _ => h4 _
  m2 := real3 fun _ _ _ => h5 _
  s2 := real2 fun _ _ => h6 _
  b2 := real1 fun _ => h7 _
  m3 := real3 fun _ _ _ => h8 _
  s3 := real2 fun _ _ => h9 _
  b3 := real1 fun _ => h10 _
  f1 := real2 fun _ _ => h11 _
  c1 := real1 fun _ => h12 _
  f2 := real2 fun _ _ => h13 _
  c2 := real1 fun _ => h14 _
  e1 := real2 fun _ _ => h19 _
  g1 := real1 fun _ => h20 _
  wb := real3 fun _ _ _ => h21 _

end Cert.Pre

end
-- ==== Proof.Equal.lean ====
/- The kernel's three results are the reference's, from arrays of real numbers. -/
module

public import proofs.«01_k».proof.Proof.Tail
public import proofs.«01_k».proof.Proof.Ref
public import proofs.«01_k».proof.Proof.Pre

@[expose] public section

set_option maxRecDepth 16384

noncomputable section

namespace Cert.KernelIdeal.Equal

open Idealize.ShloMosaic Idealize.ShloMosaic.TcCoe Idealize.SL.Sem
open Cert.KernelIdeal Cert.KernelIdeal.Gen Cert.KernelIdeal.Body Cert.Model
open Cert.KernelIdeal.Entry Cert.KernelIdeal.Arrays Cert.KernelIdeal.Tail Cert.ReferenceIdeal.Read

variable (m : (ℓ : Loc nD τ sig) → Buf (Elt Ideal) ℓ) (c : Dev nD)

/-- The arrays that the claim asks to be finite hold real numbers. -/
structure Finite : Prop where
  prm : (prm m c).IsReal
  adj : ∀ b, Real3 (adjm m c b)
  feat : ∀ b, Real2 (featm m c b)

/-- The precondition gives real numbers. -/
theorem finite [Cert.Pre_finite_inputs.Facts] (h : Cert.Pre_KernelIdeal_finite_inputs m) : Finite m c := by
  obtain ⟨h0, h1, h2, h3, h4, h5, h6, h7, h8, h9, h10, h11, h12, h13, h14, h19, h20, h21⟩ := h c
  exact {
    prm := Pre.params_real (Pre.fin_of _ h2) (Pre.fin_of _ h3) (Pre.fin_of _ h4) (Pre.fin_of _ h5) (Pre.fin_of _ h6)
      (Pre.fin_of _ h7) (Pre.fin_of _ h8) (Pre.fin_of _ h9) (Pre.fin_of _ h10) (Pre.fin_of _ h11) (Pre.fin_of _ h12)
      (Pre.fin_of _ h13) (Pre.fin_of _ h14) (Pre.fin_of _ h19) (Pre.fin_of _ h20) (Pre.fin_of _ h21)
    adj := fun b => Pre.real3 fun _ _ _ => Pre.fin_of _ h1 _
    feat := fun b => Pre.real2 fun _ _ => Pre.fin_of _ h0 _ }

variable {m} {c}

/-- The node logits agree. -/
theorem node (h : Finite m c) : fin m c main_v24 = val_main_v52 (F := Ideal)
    (m ((c : Thread nD τ).loc main_arg0)) (m ((c : Thread nD τ).loc main_arg1)) (m ((c : Thread nD τ).loc main_arg2)) (m
    ((c : Thread nD τ).loc main_arg3)) (m ((c : Thread nD τ).loc main_arg4)) (m ((c : Thread nD τ).loc main_arg5)) (m
    ((c : Thread nD τ).loc main_arg6)) (m ((c : Thread nD τ).loc main_arg7)) (m ((c : Thread nD τ).loc main_arg8)) (m
    ((c : Thread nD τ).loc main_arg9)) (m ((c : Thread nD τ).loc main_arg10)) (m ((c : Thread nD τ).loc main_arg11)) (m
    ((c : Thread nD τ).loc main_arg12)) (m ((c : Thread nD τ).loc main_arg13)) (m ((c : Thread nD τ).loc main_arg14)) (m
    ((c : Thread nD τ).loc main_arg15)) (m ((c : Thread nD τ).loc main_arg16)) (m ((c : Thread nD τ).loc main_arg17)) (m
    ((c : Thread nD τ).loc main_arg18)) := by
  funext y
  idx_vars y
  refine (node_at m c y0 y1 y2).trans ?_
  rw [embm, embKer_eq h.prm (h.adj _) (h.feat _)]
  exact (Cert.ReferenceIdeal.Ref.logits (m ((c : Thread nD τ).loc main_arg0)) (m ((c : Thread nD τ).loc main_arg1)) (m ((c : Thread nD τ).loc main_arg2)) (m
    ((c : Thread nD τ).loc main_arg3)) (m ((c : Thread nD τ).loc main_arg4)) (m ((c : Thread nD τ).loc main_arg5)) (m
    ((c : Thread nD τ).loc main_arg6)) (m ((c : Thread nD τ).loc main_arg7)) (m ((c : Thread nD τ).loc main_arg8)) (m
    ((c : Thread nD τ).loc main_arg9)) (m ((c : Thread nD τ).loc main_arg10)) (m ((c : Thread nD τ).loc main_arg11)) (m
    ((c : Thread nD τ).loc main_arg12)) (m ((c : Thread nD τ).loc main_arg13)) (m ((c : Thread nD τ).loc main_arg14)) (m
    ((c : Thread nD τ).loc main_arg15)) (m ((c : Thread nD τ).loc main_arg16)) (m ((c : Thread nD τ).loc main_arg17)) (m
    ((c : Thread nD τ).loc main_arg18)) (m ((c : Thread nD τ).loc main_arg19)) (m ((c : Thread nD τ).loc main_arg20)) (m
    ((c : Thread nD τ).loc main_arg21)) y0 y1 y2).symm

/-- The edge logits agree. -/
theorem edge (h : Finite m c) : fin m c main_v26 = val_main_v65 (F := Ideal)
    (m ((c : Thread nD τ).loc main_arg0)) (m ((c : Thread nD τ).loc main_arg1)) (m ((c : Thread nD τ).loc main_arg2)) (m
    ((c : Thread nD τ).loc main_arg3)) (m ((c : Thread nD τ).loc main_arg4)) (m ((c : Thread nD τ).loc main_arg5)) (m
    ((c : Thread nD τ).loc main_arg6)) (m ((c : Thread nD τ).loc main_arg7)) (m ((c : Thread nD τ).loc main_arg8)) (m
    ((c : Thread nD τ).loc main_arg9)) (m ((c : Thread nD τ).loc main_arg10)) (m ((c : Thread nD τ).loc main_arg11)) (m
    ((c : Thread nD τ).loc main_arg12)) (m ((c : Thread nD τ).loc main_arg13)) (m ((c : Thread nD τ).loc main_arg14)) (m
    ((c : Thread nD τ).loc main_arg19)) (m ((c : Thread nD τ).loc main_arg20)) (m ((c : Thread nD τ).loc main_arg21)) := by
  funext y
  idx_vars y
  obtain ⟨r, hr⟩ := Args.half_real
  refine (edge_at m c y0 y1 y2 y3).trans ?_
  rw [embm, hr, edge_eq h.prm (h.adj _) (h.feat _), ← hr]
  exact (Cert.ReferenceIdeal.Ref.edges (m ((c : Thread nD τ).loc main_arg0)) (m ((c : Thread nD τ).loc main_arg1)) (m ((c : Thread nD τ).loc main_arg2)) (m
    ((c : Thread nD τ).loc main_arg3)) (m ((c : Thread nD τ).loc main_arg4)) (m ((c : Thread nD τ).loc main_arg5)) (m
    ((c : Thread nD τ).loc main_arg6)) (m ((c : Thread nD τ).loc main_arg7)) (m ((c : Thread nD τ).loc main_arg8)) (m
    ((c : Thread nD τ).loc main_arg9)) (m ((c : Thread nD τ).loc main_arg10)) (m ((c : Thread nD τ).loc main_arg11)) (m
    ((c : Thread nD τ).loc main_arg12)) (m ((c : Thread nD τ).loc main_arg13)) (m ((c : Thread nD τ).loc main_arg14)) (m
    ((c : Thread nD τ).loc main_arg15)) (m ((c : Thread nD τ).loc main_arg16)) (m ((c : Thread nD τ).loc main_arg17)) (m
    ((c : Thread nD τ).loc main_arg18)) (m ((c : Thread nD τ).loc main_arg19)) (m ((c : Thread nD τ).loc main_arg20)) (m
    ((c : Thread nD τ).loc main_arg21)) y0 y1 y2 y3).symm

/-- The mask logits agree. -/
theorem mask (h : Finite m c) : fin m c main_v29 = val_main_v51 (F := Ideal)
    (m ((c : Thread nD τ).loc main_arg0)) (m ((c : Thread nD τ).loc main_arg1)) (m ((c : Thread nD τ).loc main_arg2)) (m
    ((c : Thread nD τ).loc main_arg3)) (m ((c : Thread nD τ).loc main_arg4)) (m ((c : Thread nD τ).loc main_arg5)) (m
    ((c : Thread nD τ).loc main_arg6)) (m ((c : Thread nD τ).loc main_arg7)) (m ((c : Thread nD τ).loc main_arg8)) (m
    ((c : Thread nD τ).loc main_arg9)) (m ((c : Thread nD τ).loc main_arg10)) (m ((c : Thread nD τ).loc main_arg11)) (m
    ((c : Thread nD τ).loc main_arg12)) (m ((c : Thread nD τ).loc main_arg13)) (m ((c : Thread nD τ).loc main_arg14)) (m
    ((c : Thread nD τ).loc main_arg15)) (m ((c : Thread nD τ).loc main_arg16)) (m ((c : Thread nD τ).loc main_arg17)) (m
    ((c : Thread nD τ).loc main_arg18)) := by
  funext y
  idx_vars y
  refine (mask_at m c y0 y1).trans ?_
  rw [embm, embKer_eq h.prm (h.adj _) (h.feat _)]
  exact (Cert.ReferenceIdeal.Ref.mask (m ((c : Thread nD τ).loc main_arg0)) (m ((c : Thread nD τ).loc main_arg1)) (m ((c : Thread nD τ).loc main_arg2)) (m
    ((c : Thread nD τ).loc main_arg3)) (m ((c : Thread nD τ).loc main_arg4)) (m ((c : Thread nD τ).loc main_arg5)) (m
    ((c : Thread nD τ).loc main_arg6)) (m ((c : Thread nD τ).loc main_arg7)) (m ((c : Thread nD τ).loc main_arg8)) (m
    ((c : Thread nD τ).loc main_arg9)) (m ((c : Thread nD τ).loc main_arg10)) (m ((c : Thread nD τ).loc main_arg11)) (m
    ((c : Thread nD τ).loc main_arg12)) (m ((c : Thread nD τ).loc main_arg13)) (m ((c : Thread nD τ).loc main_arg14)) (m
    ((c : Thread nD τ).loc main_arg15)) (m ((c : Thread nD τ).loc main_arg16)) (m ((c : Thread nD τ).loc main_arg17)) (m
    ((c : Thread nD τ).loc main_arg18)) (m ((c : Thread nD τ).loc main_arg19)) (m ((c : Thread nD τ).loc main_arg20)) (m
    ((c : Thread nD τ).loc main_arg21)) y0 y1).symm

end Cert.KernelIdeal.Equal

end
-- ==== Proof.lean ====
/- The certificate: the two printed kernels and the reference run to the end and leave their arguments alone, and in exact
   arithmetic the kernel's three results are the reference's. -/
module

public import proofs.«01_k».proof.Defs
public import proofs.«01_k».proof.Proof.KernelBody
public import proofs.«01_k».proof.Proof.Equal
public import proofs.«01_k».proof.Proof.Gen.ReferenceIdeal.Run

@[expose] public section

set_option maxRecDepth 16384

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre.facts

/-- The reference ends, with its arguments unchanged and every counter at zero. -/
theorem frame_reference : Cert.quiescent_ReferenceIdeal := fun m g _ =>
  θ_run_mono (Cert.ReferenceIdeal.Value.run m g) fun r h =>
    ⟨fun c => (h c).2.2.2, sem_eq_zero_of_no_sems (by decide) r.2⟩

set_option maxHeartbeats 2000000 in
open Cert.KernelIdeal.Tail in
/-- From finite inputs the kernel's three results are the reference's. -/
theorem algebraic : Cert.algebraic_KernelIdeal_ReferenceIdeal_pre_finite_inputs := by
  intro m g m' g' hpre hagree
  refine ⟨fun c => fin m c Cert.KernelIdeal.main_v24, fun c => fin m c Cert.KernelIdeal.main_v26,
    fun c => fin m c Cert.KernelIdeal.main_v29,
    θ_run_mono (θ_run_and (run m g) (Cert.KernelIdeal.Body.unchanged m g)) fun r h c =>
      ⟨(h.1 c).1, (h.1 c).2.1, (h.1 c).2.2, h.2 c⟩,
    θ_run_mono (Cert.ReferenceIdeal.Value.run m' g') fun r h c => ⟨(h c).1.trans ?_, (h c).2.1.trans ?_,
      (h c).2.2.1.trans ?_, (h c).2.2.2⟩⟩
  all_goals
    obtain ⟨a0, a1, a2, a3, a4, a5, a6, a7, a8, a9, a10,
      a11, a12, a13, a14, a15, a16, a17, a18, a19, a20, a21⟩ := hagree c
  · rw [Cert.ReferenceIdeal.Read.val_main_v52_eq, a0, a1, a2, a3, a4, a5, a6, a7, a8,
      a9, a10, a11, a12, a13, a14, a15, a16, a17, a18]
    exact (Cert.KernelIdeal.Equal.node (Cert.KernelIdeal.Equal.finite m c hpre)).symm
  · rw [Cert.ReferenceIdeal.Read.val_main_v65_eq, a0, a1, a2, a3, a4, a5, a6, a7, a8,
      a9, a10, a11, a12, a13, a14, a19, a20, a21]
    exact (Cert.KernelIdeal.Equal.edge (Cert.KernelIdeal.Equal.finite m c hpre)).symm
  · rw [Cert.ReferenceIdeal.Read.val_main_v51_eq, a0, a1, a2, a3, a4, a5, a6, a7, a8,
      a9, a10, a11, a12, a13, a14, a15, a16, a17, a18]
    exact (Cert.KernelIdeal.Equal.mask (Cert.KernelIdeal.Equal.finite m c hpre)).symm

/-- Every claim of the certificate. -/
theorem claim : Cert.Claim :=
  ⟨Cert.Kernel.Gen.facts, Cert.KernelIdeal.Gen.facts, Cert.ReferenceIdeal.Gen.facts, Cert.Pre.facts,
    fun m g _ => Cert.Kernel.Body.frame m g, fun m g _ => Cert.KernelIdeal.Body.frame m g,
    fun m g _ => Cert.KernelIdeal.Body.frame m g, frame_reference, fun m g _ => frame_reference m g trivial, trivial,
    algebraic⟩

end Cert.Proof

end
